-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩
abbrev S2048x1024 : Shape := ⟨2, ![2048, 1024]⟩
abbrev S2048x256 : Shape := ⟨2, ![2048, 256]⟩
abbrev S128x1024 : Shape := ⟨2, ![128, 1024]⟩
abbrev S1024x2048 : Shape := ⟨2, ![1024, 2048]⟩
abbrev S1024x128 : Shape := ⟨2, ![1024, 128]⟩
abbrev S1024x1024 : Shape := ⟨2, ![1024, 1024]⟩
abbrev S1024x256 : Shape := ⟨2, ![1024, 256]⟩
abbrev S1024x32 : Shape := ⟨2, ![1024, 32]⟩
abbrev S3 : Shape := ⟨1, ![3]⟩
abbrev S8 : Shape := ⟨1, ![8]⟩
abbrev S1x512x2048 : Shape := ⟨3, ![1, 512, 2048]⟩
abbrev S512x2048 : Shape := ⟨2, ![512, 2048]⟩
abbrev S256x2048 : Shape := ⟨2, ![256, 2048]⟩
abbrev S256x128 : Shape := ⟨2, ![256, 128]⟩
abbrev S1 : Shape := ⟨1, ![1]⟩
abbrev S256x1024 : Shape := ⟨2, ![256, 1024]⟩
abbrev S256x256 : Shape := ⟨2, ![256, 256]⟩
abbrev S256x32 : Shape := ⟨2, ![256, 32]⟩
abbrev S512x32 : Shape := ⟨2, ![512, 32]⟩
abbrev S512x256 : Shape := ⟨2, ![512, 256]⟩
abbrev S512x128 : Shape := ⟨2, ![512, 128]⟩
abbrev S512x160 : Shape := ⟨2, ![512, 160]⟩
abbrev S512x512 : Shape := ⟨2, ![512, 512]⟩
abbrev S512 : Shape := ⟨1, ![512]⟩
abbrev S512x1 : Shape := ⟨2, ![512, 1]⟩
abbrev S1x256x2048 : Shape := ⟨3, ![1, 256, 2048]⟩

abbrev nBuf : Space → Nat
  | .hbm => 82
  | .vmem => 20
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x1024, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x256, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S128x1024, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S128x1024, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1024x2048, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1024x2048, .f32⟩
  | .hbm, ⟨72, _⟩ => ⟨S2x512x2048, .bf16⟩
  | .hbm, ⟨73, _⟩ => ⟨S2048x128, .bf16⟩
  | .hbm, ⟨74, _⟩ => ⟨S128x1024, .bf16⟩
  | .hbm, ⟨75, _⟩ => ⟨S128x1024, .bf16⟩
  | .hbm, ⟨76, _⟩ => ⟨S2048x1024, .bf16⟩
  | .hbm, ⟨77, _⟩ => ⟨S2048x256, .bf16⟩
  | .hbm, ⟨78, _⟩ => ⟨S2048x32, .bf16⟩
  | .hbm, ⟨79, _⟩ => ⟨S1024x2048, .bf16⟩
  | .hbm, ⟨80, _⟩ => ⟨S1024x2048, .bf16⟩
  | .hbm, ⟨81, _⟩ => ⟨S2x512x2048, .f32⟩
  | .local _ .vmem, ⟨0, _⟩ => ⟨S2x512x2048, .bf16⟩
  | .local _ .vmem, ⟨1, _⟩ => ⟨S2048x128, .bf16⟩
  | .local _ .vmem, ⟨2, _⟩ => ⟨S128x1024, .bf16⟩
  | .local _ .vmem, ⟨3, _⟩ => ⟨S128x1024, .bf16⟩
  | .local _ .vmem, ⟨4, _⟩ => ⟨S2048x1024, .bf16⟩
  | .local _ .vmem, ⟨5, _⟩ => ⟨S2048x256, .bf16⟩
  | .local _ .vmem, ⟨6, _⟩ => ⟨S2048x32, .bf16⟩
  | .local _ .vmem, ⟨7, _⟩ => ⟨S1024x2048, .bf16⟩
  | .local _ .vmem, ⟨8, _⟩ => ⟨S1024x2048, .bf16⟩
  | .local _ .vmem, ⟨9, _⟩ => ⟨S2x512x2048, .f32⟩
  | .local _ .vmem, ⟨10, _⟩ => ⟨S1024x128, .bf16⟩
  | .local _ .vmem, ⟨11, _⟩ => ⟨S1024x128, .bf16⟩
  | .local _ .vmem, ⟨12, _⟩ => ⟨S128x1024, .bf16⟩
  | .local _ .vmem, ⟨13, _⟩ => ⟨S128x1024, .bf16⟩
  | .local _ .vmem, ⟨14, _⟩ => ⟨S1024x1024, .bf16⟩
  | .local _ .vmem, ⟨15, _⟩ => ⟨S1024x256, .bf16⟩
  | .local _ .vmem, ⟨16, _⟩ => ⟨S1024x32, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_c_5 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_c_7 : Ref sig .tc := ⟨.hbm, 27, rfl⟩
abbrev main_v12 : Ref sig .tc := ⟨.hbm, 28, rfl⟩
abbrev main_c_8 : Ref sig .tc := ⟨.hbm, 29, rfl⟩
abbrev main_v13 : Ref sig .tc := ⟨.hbm, 30, rfl⟩
abbrev main_v14 : Ref sig .tc := ⟨.hbm, 31, rfl⟩
abbrev main_c_9 : Ref sig .tc := ⟨.hbm, 32, rfl⟩
abbrev main_v15 : Ref sig .tc := ⟨.hbm, 33, rfl⟩
abbrev main_c_10 : Ref sig .tc := ⟨.hbm, 34, rfl⟩
abbrev main_v16 : Ref sig .tc := ⟨.hbm, 35, rfl⟩
abbrev main_c_11 : Ref sig .tc := ⟨.hbm, 36, rfl⟩
abbrev main_v17 : Ref sig .tc := ⟨.hbm, 37, rfl⟩
abbrev main_c_12 : Ref sig .tc := ⟨.hbm, 38, rfl⟩
abbrev main_v18 : Ref sig .tc := ⟨.hbm, 39, rfl⟩
abbrev main_v19 : Ref sig .tc := ⟨.hbm, 40, rfl⟩
abbrev main_c_13 : Ref sig .tc := ⟨.hbm, 41, rfl⟩
abbrev main_v20 : Ref sig .tc := ⟨.hbm, 42, rfl⟩
abbrev main_c_14 : Ref sig .tc := ⟨.hbm, 43, rfl⟩
abbrev main_v21 : Ref sig .tc := ⟨.hbm, 44, rfl⟩
abbrev main_c_15 : Ref sig .tc := ⟨.hbm, 45, rfl⟩
abbrev main_v22 : Ref sig .tc := ⟨.hbm, 46, rfl⟩
abbrev main_c_16 : Ref sig .tc := ⟨.hbm, 47, rfl⟩
abbrev main_v23 : Ref sig .tc := ⟨.hbm, 48, rfl⟩
abbrev main_v24 : Ref sig .tc := ⟨.hbm, 49, rfl⟩
abbrev main_c_17 : Ref sig .tc := ⟨.hbm, 50, rfl⟩
abbrev main_v25 : Ref sig .tc := ⟨.hbm, 51, rfl⟩
abbrev main_c_18 : Ref sig .tc := ⟨.hbm, 52, rfl⟩
abbrev main_v26 : Ref sig .tc := ⟨.hbm, 53, rfl⟩
abbrev main_c_19 : Ref sig .tc := ⟨.hbm, 54, rfl⟩
abbrev main_v27 : Ref sig .tc := ⟨.hbm, 55, rfl⟩
abbrev main_c_20 : Ref sig .tc := ⟨.hbm, 56, rfl⟩
abbrev main_v28 : Ref sig .tc := ⟨.hbm, 57, rfl⟩
abbrev main_v29 : Ref sig .tc := ⟨.hbm, 58, rfl⟩
abbrev main_c_21 : Ref sig .tc := ⟨.hbm, 59, rfl⟩
abbrev main_v30 : Ref sig .tc := ⟨.hbm, 60, rfl⟩
abbrev main_c_22 : Ref sig .tc := ⟨.hbm, 61, rfl⟩
abbrev main_v31 : Ref sig .tc := ⟨.hbm, 62, rfl⟩
abbrev main_c_23 : Ref sig .tc := ⟨.hbm, 63, rfl⟩
abbrev main_v32 : Ref sig .tc := ⟨.hbm, 64, rfl⟩
abbrev main_c_24 : Ref sig .tc := ⟨.hbm, 65, rfl⟩
abbrev main_v33 : Ref sig .tc := ⟨.hbm, 66, rfl⟩
abbrev main_c_25 : Ref sig .tc := ⟨.hbm, 67, rfl⟩
abbrev main_v34 : Ref sig .tc := ⟨.hbm, 68, rfl⟩
abbrev main_v35 : Ref sig .tc := ⟨.hbm, 69, rfl⟩
abbrev main_c_26 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v53 : BitVec 32 := Scalar.muli v6 c2_i32_34
  let v54 : BitVec 32 := Scalar.addi c0_i32_35 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v55 : BitVec 32 := Scalar.muli v5 c1_i32_36
  let v56 : BitVec 32 := Scalar.addi v54 v55
  v56.toNat
def k0_dev4 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v61 : BitVec 32 := Scalar.muli v6 c2_i32_39
  let v62 : BitVec 32 := Scalar.addi c0_i32_40 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v63 : BitVec 32 := Scalar.muli v5 c1_i32_41
  let v64 : BitVec 32 := Scalar.addi v62 v63
  v64.toNat
def k0_dev5 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v69 : BitVec 32 := Scalar.muli v6 c2_i32_44
  let v70 : BitVec 32 := Scalar.addi c0_i32_45 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v71 : BitVec 32 := Scalar.muli v5 c1_i32_46
  let v72 : BitVec 32 := Scalar.addi v70 v71
  v72.toNat
def k0_dev6 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v333 : BitVec 32 := Scalar.muli v2 c2_i32_253
  let v334 : BitVec 32 := Scalar.addi c0_i32_254 v333
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_255 : BitVec 32 := 1#32
  let v335 : BitVec 32 := Scalar.muli v7 c1_i32_255
  let v336 : BitVec 32 := Scalar.addi v334 v335
  v336.toNat
def k0_dev7 (d0 : Dev nD) : Nat :=
  let c0_i32_296 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_295 : BitVec 32 := 2#32
  let v395 : BitVec 32 := Scalar.muli v2 c2_i32_295
  let v396 : BitVec 32 := Scalar.addi c0_i32_296 v395
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_297 : BitVec 32 := 1#32
  let v397 : BitVec 32 := Scalar.muli v7 c1_i32_297
  let v398 : BitVec 32 := Scalar.addi v396 v397
  v398.toNat
def k0_dev8 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v457 : BitVec 32 := Scalar.muli v2 c2_i32_337
  let v458 : BitVec 32 := Scalar.addi c0_i32_338 v457
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_339 : BitVec 32 := 1#32
  let v459 : BitVec 32 := Scalar.muli v7 c1_i32_339
  let v460 : BitVec 32 := Scalar.addi v458 v459
  v460.toNat
def k0_dev9 (d0 : Dev nD) : Nat :=
  let c0_i32_378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_377 : BitVec 32 := 2#32
  let v519 : BitVec 32 := Scalar.muli v2 c2_i32_377
  let v520 : BitVec 32 := Scalar.addi c0_i32_378 v519
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_379 : BitVec 32 := 1#32
  let v521 : BitVec 32 := Scalar.muli v7 c1_i32_379
  let v522 : BitVec 32 := Scalar.addi v520 v521
  v522.toNat
def k0_dev10 (d0 : Dev nD) : Nat :=
  let c0_i32_419 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_418 : BitVec 32 := 2#32
  let v581 : BitVec 32 := Scalar.muli v2 c2_i32_418
  let v582 : BitVec 32 := Scalar.addi c0_i32_419 v581
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_420 : BitVec 32 := 1#32
  let v583 : BitVec 32 := Scalar.muli v7 c1_i32_420
  let v584 : BitVec 32 := Scalar.addi v582 v583
  v584.toNat
def k0_dev11 (d0 : Dev nD) : Nat :=
  let c0_i32_459 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_458 : BitVec 32 := 2#32
  let v643 : BitVec 32 := Scalar.muli v2 c2_i32_458
  let v644 : BitVec 32 := Scalar.addi c0_i32_459 v643
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_460 : BitVec 32 := 1#32
  let v645 : BitVec 32 := Scalar.muli v7 c1_i32_460
  let v646 : BitVec 32 := Scalar.addi v644 v645
  v646.toNat
def k0_dev12 (d0 : Dev nD) : Nat :=
  let c0_i32_500 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_499 : BitVec 32 := 2#32
  let v705 : BitVec 32 := Scalar.muli v2 c2_i32_499
  let v706 : BitVec 32 := Scalar.addi c0_i32_500 v705
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_501 : BitVec 32 := 1#32
  let v707 : BitVec 32 := Scalar.muli v7 c1_i32_501
  let v708 : BitVec 32 := Scalar.addi v706 v707
  v708.toNat
def k0_dev13 (d0 : Dev nD) : Nat :=
  let c0_i32_540 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_539 : BitVec 32 := 2#32
  let v767 : BitVec 32 := Scalar.muli v2 c2_i32_539
  let v768 : BitVec 32 := Scalar.addi c0_i32_540 v767
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_541 : BitVec 32 := 1#32
  let v769 : BitVec 32 := Scalar.muli v7 c1_i32_541
  let v770 : BitVec 32 := Scalar.addi v768 v769
  v770.toNat
abbrev stage0_0 : Fin 1 → Memref sig .tc .vmem S2x512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Pieces.lean ====
/- The kernel's body again, in repeated pieces: one row block of a projection, one attention tile of
   one head, one row block of the output product. The tile functions are named here, every rectangle
   is a family over its block index, and the printed body is this program by computation. -/
module

public import proofs.«01_k».proof.KernelIdeal

set_option maxRecDepth 100000

namespace Cert.KernelIdeal.Hand

open Idealize.ShloMosaic Idealize.SL.Sem
open Cert.KernelIdeal Facts₀ Facts

public section

@[expose] section

variable {F : FTy → Type} [FloatOps F] [Facts]

/-! ### Rectangles -/

/-- Row block `j` of a two-dimensional buffer of 1024 rows. -/
abbrev rowR (n : Nat) (j : Fin 4) : Rect ⟨2, ![1024, n]⟩ :=
  Rect.unit (s := ⟨2, ![1024, n]⟩) ![256 * j.val, 0] (⟨2, ![256, n]⟩ : Shape).size
    (by intro a; have := j.isLt; fin_cases a <;> simp <;> omega)

/-- The rows of batch `b`. -/
abbrev batR (n : Nat) (b : Fin 2) : Rect ⟨2, ![1024, n]⟩ :=
  Rect.unit (s := ⟨2, ![1024, n]⟩) ![512 * b.val, 0] (⟨2, ![512, n]⟩ : Shape).size
    (by intro a; have := b.isLt; fin_cases a <;> simp <;> omega)

/-- The columns of head `h` in the rows of batch `b`. -/
abbrev tileR (h : Fin 8) (b : Fin 2) : Rect S1024x1024 :=
  Rect.unit (s := S1024x1024) ![512 * b.val, 128 * h.val] S512x128.size
    (by intro a; have := b.isLt; have := h.isLt; fin_cases a <;> simp <;> omega)

/-- The columns of head `h`. -/
abbrev headR (h : Fin 8) : Rect S1024x1024 :=
  Rect.unit (s := S1024x1024) ![0, 128 * h.val] S1024x128.size
    (by intro a; have := h.isLt; fin_cases a <;> simp <;> omega)

/-- The whole of a two-dimensional buffer. -/
abbrev allR (m n : Nat) : Rect ⟨2, ![m, n]⟩ :=
  Rect.unit (s := ⟨2, ![m, n]⟩) ![0, 0] (⟨2, ![m, n]⟩ : Shape).size
    (by intro a; fin_cases a <;> simp)

/-- Batch `b` of the input. -/
abbrev xR (b : Fin 2) : Rect S2x512x2048 :=
  Rect.unit (s := S2x512x2048) ![b.val, 0, 0] S1x512x2048.size
    (by intro a; have := b.isLt; fin_cases a <;> simp <;> omega)

/-- Half `k` of batch `b` of the output. -/
abbrev outR (b k : Fin 2) : Rect S2x512x2048 :=
  Rect.unit (s := S2x512x2048) ![b.val, 256 * k.val, 0] S1x256x2048.size
    (by intro a; have := b.isLt; have := k.isLt; fin_cases a <;> simp <;> omega)

theorem row128_packed (j : Fin 4) : (rowR 128 j).PackedRows (EltTy.packing .bf16) := by
  fin_cases j
  · exact packedbf16_S1024x128_S256x128_0_0
  · exact packedbf16_S1024x128_S256x128_256_0
  · exact packedbf16_S1024x128_S256x128_512_0
  · exact packedbf16_S1024x128_S256x128_768_0

theorem row1024_packed (j : Fin 4) : (rowR 1024 j).PackedRows (EltTy.packing .bf16) := by
  fin_cases j
  · exact packedbf16_S1024x1024_S256x1024_0_0
  · exact packedbf16_S1024x1024_S256x1024_256_0
  · exact packedbf16_S1024x1024_S256x1024_512_0
  · exact packedbf16_S1024x1024_S256x1024_768_0

theorem row256_packed (j : Fin 4) : (rowR 256 j).PackedRows (EltTy.packing .bf16) := by
  fin_cases j
  · exact packedbf16_S1024x256_S256x256_0_0
  · exact packedbf16_S1024x256_S256x256_256_0
  · exact packedbf16_S1024x256_S256x256_512_0
  · exact packedbf16_S1024x256_S256x256_768_0

theorem row32_packed (j : Fin 4) : (rowR 32 j).PackedRows (EltTy.packing .bf16) := by
  fin_cases j
  · exact packedbf16_S1024x32_S256x32_0_0
  · exact packedbf16_S1024x32_S256x32_256_0
  · exact packedbf16_S1024x32_S256x32_512_0
  · exact packedbf16_S1024x32_S256x32_768_0

theorem tile_packed (h : Fin 8) (b : Fin 2) : (tileR h b).PackedRows (EltTy.packing .bf16) := by
  fin_cases h <;> fin_cases b
  · exact packedbf16_S1024x1024_S512x128_0_0
  · exact packedbf16_S1024x1024_S512x128_512_0
  · exact packedbf16_S1024x1024_S512x128_0_128
  · exact packedbf16_S1024x1024_S512x128_512_128
  · exact packedbf16_S1024x1024_S512x128_0_256
  · exact packedbf16_S1024x1024_S512x128_512_256
  · exact packedbf16_S1024x1024_S512x128_0_384
  · exact packedbf16_S1024x1024_S512x128_512_384
  · exact packedbf16_S1024x1024_S512x128_0_512
  · exact packedbf16_S1024x1024_S512x128_512_512
  · exact packedbf16_S1024x1024_S512x128_0_640
  · exact packedbf16_S1024x1024_S512x128_512_640
  · exact packedbf16_S1024x1024_S512x128_0_768
  · exact packedbf16_S1024x1024_S512x128_512_768
  · exact packedbf16_S1024x1024_S512x128_0_896
  · exact packedbf16_S1024x1024_S512x128_512_896

theorem head_words (h : Fin 8) : (headR h).WholeWords (EltTy.packing .bf16) := by
  fin_cases h
  · exact wordsbf16_S1024x1024_S1024x128_0_0
  · exact wordsbf16_S1024x1024_S1024x128_0_128
  · exact wordsbf16_S1024x1024_S1024x128_0_256
  · exact wordsbf16_S1024x1024_S1024x128_0_384
  · exact wordsbf16_S1024x1024_S1024x128_0_512
  · exact wordsbf16_S1024x1024_S1024x128_0_640
  · exact wordsbf16_S1024x1024_S1024x128_0_768
  · exact wordsbf16_S1024x1024_S1024x128_0_896

theorem sliceX_ok (k : Fin 2) : S512x2048.Slices ![256 * k.val, 0] S256x2048 := by
  fin_cases k
  · exact slices_S512x2048_o0_0_S256x2048
  · exact slices_S512x2048_o256_0_S256x2048

theorem sliceQr_ok (h : Fin 8) : S512x256.Slices ![0, 32 * h.val] S512x32 := by
  fin_cases h
  · exact slices_S512x256_o0_0_S512x32
  · exact slices_S512x256_o0_32_S512x32
  · exact slices_S512x256_o0_64_S512x32
  · exact slices_S512x256_o0_96_S512x32
  · exact slices_S512x256_o0_128_S512x32
  · exact slices_S512x256_o0_160_S512x32
  · exact slices_S512x256_o0_192_S512x32
  · exact slices_S512x256_o0_224_S512x32

/-! ### Tile functions -/

/-- Rows `256 k …` of one batch of the input. -/
def xT (k : Fin 2) (xb : Vec F S1x512x2048 .bf16) : FVec F S256x2048 .bf16 :=
  extractStridedSlice S256x2048 ![256 * k.val, 0]
    (shapeCast S512x2048 xb shapeCasts_S1x512x2048_S512x2048) (sliceX_ok k)

/-- One row block of the latent. -/
def cT (xs : FVec F S256x2048 .bf16) (w : Vec F S2048x128 .bf16) : FVec F S256x128 .bf16 :=
  shapeCast S256x128 (truncf .bf16 (matmul dot_S256x2048_S2048x128_S256x128_1_0_0_1_n_n none xs
    (shapeCast S2048x128 w shapeCasts_S2048x128_S2048x128) (constant S256x128 .f32 0x00000000#32))
    bitsLt_bf16_f32) shapeCasts_S256x128_S256x128

/-- One row block of the queries. -/
def qT (xs : FVec F S256x2048 .bf16) (w : Vec F S2048x1024 .bf16) : FVec F S256x1024 .bf16 :=
  shapeCast S256x1024 (truncf .bf16 (matmul dot_S256x2048_S2048x1024_S256x1024_1_0_0_1_n_n none xs
    (shapeCast S2048x1024 w shapeCasts_S2048x1024_S2048x1024) (constant S256x1024 .f32 0x00000000#32))
    bitsLt_bf16_f32) shapeCasts_S256x1024_S256x1024

/-- One row block of the rotary queries. -/
def qrT (xs : FVec F S256x2048 .bf16) (w : Vec F S2048x256 .bf16) : FVec F S256x256 .bf16 :=
  shapeCast S256x256 (truncf .bf16 (matmul dot_S256x2048_S2048x256_S256x256_1_0_0_1_n_n none xs
    (shapeCast S2048x256 w shapeCasts_S2048x256_S2048x256) (constant S256x256 .f32 0x00000000#32))
    bitsLt_bf16_f32) shapeCasts_S256x256_S256x256

/-- One row block of the rotary keys. -/
def krT (xs : FVec F S256x2048 .bf16) (w : Vec F S2048x32 .bf16) : FVec F S256x32 .bf16 :=
  shapeCast S256x32 (truncf .bf16 (matmul dot_S256x2048_S2048x32_S256x32_1_0_0_1_n_n none xs
    (shapeCast S2048x32 w shapeCasts_S2048x32_S2048x32) (constant S256x32 .f32 0x00000000#32))
    bitsLt_bf16_f32) shapeCasts_S256x32_S256x32

/-- One row block of the keys (or values): this device's half of the latent and its neighbour's. -/
def kvT (c cn : Vec F S256x128 .bf16) (w wn : Vec F S128x1024 .bf16) : FVec F S256x1024 .bf16 :=
  shapeCast S256x1024 (truncf .bf16 (addf
    (matmul (φ₁ := .bf16) (φ₂ := .bf16) dot_S256x128_S128x1024_S256x1024_1_0_0_1_n_n none c
      (shapeCast S128x1024 w shapeCasts_S128x1024_S128x1024) (constant S256x1024 .f32 0x00000000#32))
    (matmul (φ₁ := .bf16) (φ₂ := .bf16) dot_S256x128_S128x1024_S256x1024_1_0_0_1_n_n none cn wn
      (constant S256x1024 .f32 0x00000000#32)))
    bitsLt_bf16_f32) shapeCasts_S256x1024_S256x1024

/-- The scaled scores of head `h` in one batch. -/
def scoreT (h : Fin 8) (kr : Vec F S512x32 .bf16) (qr : Vec F S512x256 .bf16) (q k : Vec F S512x128 .bf16) :
    FVec F S512x512 .f32 :=
  mulf (matmul (φ₁ := .bf16) (φ₂ := .bf16) dot_S512x160_S512x160_S512x512_1_1_0_0_n_n none
      (concatenate S512x160 1 [⟨S512x128, q⟩, ⟨S512x32, extractStridedSlice S512x32 ![0, 32 * h.val] qr (sliceQr_ok h)⟩]
        concatenates_S512x128_S512x32_S512x160_d1)
      (concatenate S512x160 1 [⟨S512x128, k⟩, ⟨S512x32, kr⟩] concatenates_S512x128_S512x32_S512x160_d1)
      (constant S512x512 .f32 0x00000000#32))
    (broadcast S512x512 (Scalar.ofBits .f32 0x3DA1E89B#32))

/-- The exponentials of the scores less their row maximum. -/
def expT (s : FVec F S512x512 .f32) : FVec F S512x512 .f32 :=
  exp (subf s (broadcastTo S512x512 (shapeCast S512x1
    (multiReduction .maximumf [1] S512 s 0xFF800000#32 reduces_S512x512_S512 (.inl rfl) rfl)
    shapeCasts_S512_S512x1) broadcasts_S512x1_S512x512))

/-- The attention weights. -/
def probT (e : FVec F S512x512 .f32) : FVec F S512x512 .bf16 :=
  truncf .bf16 (divf e (broadcastTo S512x512 (shapeCast S512x1
    (multiReduction .add [1] S512 e 0x00000000#32 reduces_S512x512_S512 (.inl rfl) rfl)
    shapeCasts_S512_S512x1) broadcasts_S512x1_S512x512)) bitsLt_bf16_f32

/-- The attention output of head `h` in one batch. -/
def attnT (h : Fin 8) (kr : Vec F S512x32 .bf16) (qr : Vec F S512x256 .bf16) (q k v : Vec F S512x128 .bf16) :
    FVec F S512x128 .bf16 :=
  shapeCast S512x128 (truncf .bf16 (matmul (φ₁ := .bf16) (φ₂ := .bf16)
    dot_S512x512_S512x128_S512x128_1_0_0_1_n_n none (probT (expT (scoreT h kr qr q k))) v
    (constant S512x128 .f32 0x00000000#32)) bitsLt_bf16_f32) shapeCasts_S512x128_S512x128

/-- One row block of a product with an output weight. -/
def oT (o : Vec F S256x1024 .bf16) (w : Vec F S1024x2048 .bf16) : FVec F S256x2048 .f32 :=
  matmul (φ₁ := .bf16) (φ₂ := .bf16) dot_S256x1024_S1024x2048_S256x2048_1_0_0_1_n_n none o
    (shapeCast S1024x2048 w shapeCasts_S1024x2048_S1024x2048) (constant S256x2048 .f32 0x00000000#32)

/-- The first half of an output block: this device's heads. -/
def out1T (o : Vec F S256x1024 .bf16) (w : Vec F S1024x2048 .bf16) : FVec F S1x256x2048 .f32 :=
  shapeCast S1x256x2048 (oT o w) shapeCasts_S256x2048_S1x256x2048

/-- The output block with the neighbour's heads added. -/
def out2T (old : Vec F S1x256x2048 .f32) (o : Vec F S256x1024 .bf16) (w : Vec F S1024x2048 .bf16) :
    FVec F S1x256x2048 .f32 :=
  shapeCast S1x256x2048 (addf (shapeCast S256x2048 old shapeCasts_S1x256x2048_S256x2048) (oT o w))
    shapeCasts_S256x2048_S1x256x2048

/-! ### Pieces -/

variable (F) in
/-- The kernel's programs. -/
abbrev Pg (α : Type) := Prog (TpuEff nD τ sig (Elt F) Λ₀ .tc) α

/-- Load a rectangle. -/
@[reducible] def ld {s : Shape} {e : EltTy} (m : Memref sig .tc .vmem s e) (R : Rect s) (h : 0 < R.shape.numel) :
    Pg F (Vec F R.shape e) :=
  Prog.lift (.load m R.toLoadRect (View.loadsAt_vmem h))

/-- Load a rectangle, drop what it read, store it whole. -/
@[reducible] def st {s : Shape} {e : EltTy} (m : Memref sig .tc .vmem s e) (R : Rect s) (h : 0 < R.shape.numel)
    (v : R.shape.Idx → Elt F e) (hs : (m.access R).Stores Finset.univ) : Pg F PUnit := do
  let _ ← ld m R h
  Prog.lift (.store m R v Finset.univ hs (.inl rfl))

/-- The semaphore at position `i` of an array. -/
abbrev sem3 (a : DmaSems sig S3) (i : Fin 3) : DmaSem sig :=
  ((a.slice (Rect.unit (s := S3) ![i.val] S1.size (by intro a; have := i.isLt; fin_cases a; simp; omega))).squeeze S_
    squeezes_S1_S_).sem

abbrev sem8 (a : DmaSems sig S8) (i : Fin 8) : DmaSem sig :=
  ((a.slice (Rect.unit (s := S8) ![i.val] S1.size (by intro a; have := i.isLt; fin_cases a; simp; omega))).squeeze S_
    squeezes_S1_S_).sem

abbrev headM (m : Memref sig .tc .vmem S1024x1024 .bf16) (h : Fin 8) : Memref sig .tc .vmem S1024x128 .bf16 :=
  m.slice (headR h) (fun _ => rfl)

/-- Row `2 b + k` of the four row blocks. -/
abbrev row4 (b k : Fin 2) : Fin 4 := ⟨2 * b.val + k.val, by omega⟩

/-- The latent's row blocks of batch `b`. -/
def cPart (mx : Memref sig .tc .vmem S2x512x2048 .bf16) (mw : Memref sig .tc .vmem S2048x128 .bf16)
    (mc : Memref sig .tc .vmem S1024x128 .bf16) (hc : mc.IsWhole) (b : Fin 2) : Pg F PUnit := do
  let xb ← ld mx (xR b) h_S1x512x2048
  let w ← ld mw (allR 2048 128) h_S2048x128
  st mc (rowR 128 (row4 b 0)) h_S256x128 (cT (xT 0 xb) w)
    (View.stores_vmem h_S256x128 (hc.storeExact_slice rfl _ (row128_packed _)) (fun _ => rfl))
  let w ← ld mw (allR 2048 128) h_S2048x128
  st mc (rowR 128 (row4 b 1)) h_S256x128 (cT (xT 1 xb) w)
    (View.stores_vmem h_S256x128 (hc.storeExact_slice rfl _ (row128_packed _)) (fun _ => rfl))

/-- Row block `k` of batch `b` of the three products with the input. -/
def qRow (mq : Memref sig .tc .vmem S2048x1024 .bf16) (mqr : Memref sig .tc .vmem S2048x256 .bf16)
    (mkr : Memref sig .tc .vmem S2048x32 .bf16) (q : Memref sig .tc .vmem S1024x1024 .bf16) (hq : q.IsWhole)
    (qr : Memref sig .tc .vmem S1024x256 .bf16) (hqr : qr.IsWhole) (kr : Memref sig .tc .vmem S1024x32 .bf16)
    (hkr : kr.IsWhole) (b k : Fin 2) (xb : Vec F S1x512x2048 .bf16) : Pg F PUnit := do
  let w ← ld mq (allR 2048 1024) h_S2048x1024
  st q (rowR 1024 (row4 b k)) h_S256x1024 (qT (xT k xb) w)
    (View.stores_vmem h_S256x1024 (hq.storeExact_slice rfl _ (row1024_packed _)) (fun _ => rfl))
  let w ← ld mqr (allR 2048 256) h_S2048x256
  st qr (rowR 256 (row4 b k)) h_S256x256 (qrT (xT k xb) w)
    (View.stores_vmem h_S256x256 (hqr.storeExact_slice rfl _ (row256_packed _)) (fun _ => rfl))
  let w ← ld mkr (allR 2048 32) h_S2048x32
  st kr (rowR 32 (row4 b k)) h_S256x32 (krT (xT k xb) w)
    (View.stores_vmem h_S256x32 (hkr.storeExact_slice rfl _ (row32_packed _)) (fun _ => rfl))

/-- The three products of batch `b`. -/
def qPart (mx : Memref sig .tc .vmem S2x512x2048 .bf16) (mq : Memref sig .tc .vmem S2048x1024 .bf16)
    (mqr : Memref sig .tc .vmem S2048x256 .bf16)
    (mkr : Memref sig .tc .vmem S2048x32 .bf16) (q : Memref sig .tc .vmem S1024x1024 .bf16) (hq : q.IsWhole)
    (qr : Memref sig .tc .vmem S1024x256 .bf16) (hqr : qr.IsWhole) (kr : Memref sig .tc .vmem S1024x32 .bf16)
    (hkr : kr.IsWhole) (b : Fin 2) : Pg F PUnit := do
  let xb ← ld mx (xR b) h_S1x512x2048
  qRow mq mqr mkr q hq qr hqr kr hkr b 0 xb
  qRow mq mqr mkr q hq qr hqr kr hkr b 1 xb

/-- Row block `j` of the keys and the values. -/
def kvPart (c cn : Memref sig .tc .vmem S1024x128 .bf16) (wk wkn wv wvn : Memref sig .tc .vmem S128x1024 .bf16)
    (k : Memref sig .tc .vmem S1024x1024 .bf16) (hk : k.IsWhole)
    (v : Memref sig .tc .vmem S1024x1024 .bf16) (hv : v.IsWhole) (j : Fin 4) : Pg F PUnit := do
  let cr ← ld c (rowR 128 j) h_S256x128
  let cnr ← ld cn (rowR 128 j) h_S256x128
  let w ← ld wk (allR 128 1024) h_S128x1024
  let wn ← ld wkn (allR 128 1024) h_S128x1024
  st k (rowR 1024 j) h_S256x1024 (kvT cr cnr w wn)
    (View.stores_vmem h_S256x1024 (hk.storeExact_slice rfl _ (row1024_packed _)) (fun _ => rfl))
  let w ← ld wv (allR 128 1024) h_S128x1024
  let wn ← ld wvn (allR 128 1024) h_S128x1024
  st v (rowR 1024 j) h_S256x1024 (kvT cr cnr w wn)
    (View.stores_vmem h_S256x1024 (hv.storeExact_slice rfl _ (row1024_packed _)) (fun _ => rfl))

/-- Head `h` of batch `b`, written over its queries. -/
def tilePart (q : Memref sig .tc .vmem S1024x1024 .bf16) (hq : q.IsWhole) (qr : Memref sig .tc .vmem S1024x256 .bf16)
    (kr : Memref sig .tc .vmem S1024x32 .bf16) (k v : Memref sig .tc .vmem S1024x1024 .bf16)
    (h : Fin 8) (b : Fin 2) : Pg F PUnit := do
  let krt ← ld kr (batR 32 b) h_S512x32
  let qrt ← ld qr (batR 256 b) h_S512x256
  let qt ← ld q (tileR h b) h_S512x128
  let kt ← ld k (tileR h b) h_S512x128
  let vt ← ld v (tileR h b) h_S512x128
  st q (tileR h b) h_S512x128 (attnT h krt qrt qt kt vt)
    (View.stores_vmem h_S512x128 (hq.storeExact_slice rfl _ (tile_packed _ _)) (fun _ => rfl))

/-- Head `h` and its copy to device `d`. -/
def headPart (q : Memref sig .tc .vmem S1024x1024 .bf16) (hq : q.IsWhole) (qr : Memref sig .tc .vmem S1024x256 .bf16)
    (kr : Memref sig .tc .vmem S1024x32 .bf16) (k v : Memref sig .tc .vmem S1024x1024 .bf16)
    (o : Memref sig .tc .vmem S1024x1024 .bf16) (ho : o.IsWhole) (ss sr : DmaSems sig S8)
    (h : Fin 8) (d : Dev nD) : Pg F PUnit := do
  tilePart q hq qr kr k v h 0
  tilePart q hq qr kr k v h 1
  Prog.lift (.enqueueDma (headM q h) (.remote (Dev.tc d) (headM o h) (.dma (sem8 ss h))) (.dma (sem8 sr h))
    (hq.wordExact_slice rfl _ (head_words h)) (ho.wordExact_slice rfl _ (head_words h)) ⟨⟨rfl, Or.inl rfl⟩, trivial⟩)

/-- One output block from this device's heads. -/
def out1Part (q : Memref sig .tc .vmem S1024x1024 .bf16) (w : Memref sig .tc .vmem S1024x2048 .bf16)
    (out : Memref sig .tc .vmem S2x512x2048 .f32) (b k : Fin 2) : Pg F PUnit := do
  let o ← ld q (rowR 1024 (row4 b k)) h_S256x1024
  let wo ← ld w (allR 1024 2048) h_S1024x2048
  st out (outR b k) h_S1x256x2048 (out1T o wo) (View.stores_vmem_bits_univ h_S1x256x2048 rfl)

/-- One output block with the neighbour's heads added. -/
def out2Part (o : Memref sig .tc .vmem S1024x1024 .bf16) (w : Memref sig .tc .vmem S1024x2048 .bf16)
    (out : Memref sig .tc .vmem S2x512x2048 .f32) (b k : Fin 2) : Pg F PUnit := do
  let old ← ld out (outR b k) h_S1x256x2048
  let ot ← ld o (rowR 1024 (row4 b k)) h_S256x1024
  let wo ← ld w (allR 1024 2048) h_S1024x2048
  st out (outR b k) h_S1x256x2048 (out2T old ot wo) (View.stores_vmem_bits_univ h_S1x256x2048 rfl)

/-- Wait for head `h` of the neighbour. -/
def waitRecv (q : Memref sig .tc .vmem S1024x1024 .bf16) (hq : q.IsWhole) (o : Memref sig .tc .vmem S1024x1024 .bf16)
    (ho : o.IsWhole) (sr : DmaSems sig S8) (h : Fin 8) : Pg F PUnit :=
  Prog.lift (.waitDma2 (sem8 sr h) (headM q h) (headM o h)
    (hq.wordExact_slice rfl _ (head_words h)) (ho.wordExact_slice rfl _ (head_words h)))

/-- Wait for the copy of head `h` to have left. -/
def waitSend (q : Memref sig .tc .vmem S1024x1024 .bf16) (hq : q.IsWhole) (o : Memref sig .tc .vmem S1024x1024 .bf16)
    (ho : o.IsWhole) (ss : DmaSems sig S8) (h : Fin 8) : Pg F PUnit :=
  Prog.lift (.waitDma2 (sem8 ss h) (headM o h) (headM q h)
    (ho.wordExact_slice rfl _ (head_words h)) (hq.wordExact_slice rfl _ (head_words h)))

/-- A copy of a whole buffer to device `d`. -/
def sendPart {s : Shape} (a : Memref sig .tc .vmem s .bf16) (ha : a.IsWhole) (b : Memref sig .tc .vmem s .bf16)
    (hb : b.IsWhole) (ss sr : DmaSems sig S3) (i : Fin 3) (d : Dev nD) : Pg F PUnit :=
  Prog.lift (.enqueueDma a (.remote (Dev.tc d) b (.dma (sem3 ss i))) (.dma (sem3 sr i)) ha.wordExact hb.wordExact
    ⟨⟨rfl, Or.inl rfl⟩, trivial⟩)

/-- The two waits of a whole-buffer copy. -/
def waitPart {s : Shape} (a : Memref sig .tc .vmem s .bf16) (ha : a.IsWhole) (b : Memref sig .tc .vmem s .bf16)
    (hb : b.IsWhole) (ss sr : DmaSems sig S3) (i : Fin 3) : Pg F PUnit := do
  Prog.lift (.waitDma2 (sem3 ss i) b a hb.wordExact ha.wordExact)
  Prog.lift (.waitDma2 (sem3 sr i) a b ha.wordExact hb.wordExact)

/-- The barrier semaphore. -/
abbrev barS : Sems sig S_ := SemArray.scalar (sig.barrier 0 rfl)

/-- The body from its pieces. -/
def body (arg0 : Memref sig .tc .vmem S2x512x2048 .bf16) (arg1 : Memref sig .tc .vmem S2048x128 .bf16)
    (arg2 : Memref sig .tc .vmem S128x1024 .bf16) (harg2 : arg2.IsWhole) (arg3 : Memref sig .tc .vmem S128x1024 .bf16)
    (harg3 : arg3.IsWhole) (arg4 : Memref sig .tc .vmem S2048x1024 .bf16) (arg5 : Memref sig .tc .vmem S2048x256 .bf16)
    (arg6 : Memref sig .tc .vmem S2048x32 .bf16) (arg7 : Memref sig .tc .vmem S1024x2048 .bf16)
    (arg8 : Memref sig .tc .vmem S1024x2048 .bf16) (arg9 : Memref sig .tc .vmem S2x512x2048 .f32)
    (arg10 : Memref sig .tc .vmem S1024x128 .bf16) (harg10 : arg10.IsWhole)
    (arg11 : Memref sig .tc .vmem S1024x128 .bf16) (harg11 : arg11.IsWhole)
    (arg12 : Memref sig .tc .vmem S128x1024 .bf16) (harg12 : arg12.IsWhole)
    (arg13 : Memref sig .tc .vmem S128x1024 .bf16) (harg13 : arg13.IsWhole)
    (arg14 : Memref sig .tc .vmem S1024x1024 .bf16) (harg14 : arg14.IsWhole)
    (arg15 : Memref sig .tc .vmem S1024x256 .bf16) (harg15 : arg15.IsWhole)
    (arg16 : Memref sig .tc .vmem S1024x32 .bf16) (harg16 : arg16.IsWhole)
    (arg17 : Memref sig .tc .vmem S1024x1024 .bf16) (harg17 : arg17.IsWhole)
    (arg18 : Memref sig .tc .vmem S1024x1024 .bf16) (harg18 : arg18.IsWhole)
    (arg19 : Memref sig .tc .vmem S1024x1024 .bf16) (harg19 : arg19.IsWhole)
    (arg20 arg21 : DmaSems sig S3) (arg22 arg23 : DmaSems sig S8) : Pg F PUnit := do
  let d0 : Dev nD ← Prog.lift .deviceId
  semSignalWord (⟨k0_dev1 d0, k0_dev1_lt d0⟩ : Dev nD) barS.sem 1#32
  semSignalWord (⟨k0_dev2 d0, k0_dev2_lt d0⟩ : Dev nD) barS.sem 1#32
  semWaitWord barS.sem 2#32
  cPart arg0 arg1 arg10 harg10 0
  cPart arg0 arg1 arg10 harg10 1
  sendPart arg10 harg10 arg11 harg11 arg20 arg21 0 ⟨k0_dev3 d0, k0_dev3_lt d0⟩
  sendPart arg2 harg2 arg12 harg12 arg20 arg21 1 ⟨k0_dev4 d0, k0_dev4_lt d0⟩
  sendPart arg3 harg3 arg13 harg13 arg20 arg21 2 ⟨k0_dev5 d0, k0_dev5_lt d0⟩
  qPart arg0 arg4 arg5 arg6 arg14 harg14 arg15 harg15 arg16 harg16 0
  qPart arg0 arg4 arg5 arg6 arg14 harg14 arg15 harg15 arg16 harg16 1
  waitPart arg10 harg10 arg11 harg11 arg20 arg21 0
  waitPart arg2 harg2 arg12 harg12 arg20 arg21 1
  waitPart arg3 harg3 arg13 harg13 arg20 arg21 2
  kvPart arg10 arg11 arg2 arg12 arg3 arg13 arg17 harg17 arg18 harg18 0
  kvPart arg10 arg11 arg2 arg12 arg3 arg13 arg17 harg17 arg18 harg18 1
  kvPart arg10 arg11 arg2 arg12 arg3 arg13 arg17 harg17 arg18 harg18 2
  kvPart arg10 arg11 arg2 arg12 arg3 arg13 arg17 harg17 arg18 harg18 3
  headPart arg14 harg14 arg15 arg16 arg17 arg18 arg19 harg19 arg22 arg23 0 ⟨k0_dev6 d0, k0_dev6_lt d0⟩
  headPart arg14 harg14 arg15 arg16 arg17 arg18 arg19 harg19 arg22 arg23 1 ⟨k0_dev7 d0, k0_dev7_lt d0⟩
  headPart arg14 harg14 arg15 arg16 arg17 arg18 arg19 harg19 arg22 arg23 2 ⟨k0_dev8 d0, k0_dev8_lt d0⟩
  headPart arg14 harg14 arg15 arg16 arg17 arg18 arg19 harg19 arg22 arg23 3 ⟨k0_dev9 d0, k0_dev9_lt d0⟩
  headPart arg14 harg14 arg15 arg16 arg17 arg18 arg19 harg19 arg22 arg23 4 ⟨k0_dev10 d0, k0_dev10_lt d0⟩
  headPart arg14 harg14 arg15 arg16 arg17 arg18 arg19 harg19 arg22 arg23 5 ⟨k0_dev11 d0, k0_dev11_lt d0⟩
  headPart arg14 harg14 arg15 arg16 arg17 arg18 arg19 harg19 arg22 arg23 6 ⟨k0_dev12 d0, k0_dev12_lt d0⟩
  headPart arg14 harg14 arg15 arg16 arg17 arg18 arg19 harg19 arg22 arg23 7 ⟨k0_dev13 d0, k0_dev13_lt d0⟩
  out1Part arg14 arg7 arg9 0 0
  out1Part arg14 arg7 arg9 0 1
  out1Part arg14 arg7 arg9 1 0
  out1Part arg14 arg7 arg9 1 1
  waitRecv arg14 harg14 arg19 harg19 arg23 0
  waitRecv arg14 harg14 arg19 harg19 arg23 1
  waitRecv arg14 harg14 arg19 harg19 arg23 2
  waitRecv arg14 harg14 arg19 harg19 arg23 3
  waitRecv arg14 harg14 arg19 harg19 arg23 4
  waitRecv arg14 harg14 arg19 harg19 arg23 5
  waitRecv arg14 harg14 arg19 harg19 arg23 6
  waitRecv arg14 harg14 arg19 harg19 arg23 7
  out2Part arg19 arg8 arg9 0 0
  out2Part arg19 arg8 arg9 0 1
  out2Part arg19 arg8 arg9 1 0
  out2Part arg19 arg8 arg9 1 1
  waitSend arg14 harg14 arg19 harg19 arg22 0
  waitSend arg14 harg14 arg19 harg19 arg22 1
  waitSend arg14 harg14 arg19 harg19 arg22 2
  waitSend arg14 harg14 arg19 harg19 arg22 3
  waitSend arg14 harg14 arg19 harg19 arg22 4
  waitSend arg14 harg14 arg19 harg19 arg22 5
  waitSend arg14 harg14 arg19 harg19 arg22 6
  waitSend arg14 harg14 arg19 harg19 arg22 7

end

end

end Cert.KernelIdeal.Hand
-- ==== Proof.Held.lean ====
/- A part of a buffer held at named values: `tl c m P q v` says device `c` holds share `q` of the
   elements of the memref `m` at the indices `P`, and they read `v` there. Splitting and joining over
   index sets and shares, and loads, stores and copies through it. -/
module

public import proofs.«01_k».proof.Proof.Pieces
public import Idealize.ShloMosaic.Lib.Pipeline.Kit
public import Idealize.ShloMosaic.Lib.Rounds
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The pipeline's ghost state beside the protocol's, whose rounds have at most two duties. -/
abbrev UU : Type := UR sig nD τ × URounds (GSem nD τ sig) Bool

variable (F) in
abbrev MM : Type := MT nD τ sig Unit (Elt F) ℕ UU ℕ

abbrev EP : Emb (UR sig nD τ) (MM F) := embL
abbrev ER : Emb (URounds (GSem nD τ sig) Bool) (MM F) := embR

abbrev 𝒱₀ : Variants := Variants.none

/-- The weakest precondition of a body program on device `c`. -/
abbrev WP [FloatOps F] [Facts] {α : Type} (c : Dev nD) (p : Pg F α) (Q : α → sProp (MM F)) : sProp (MM F) :=
  wp frame (wpE (defs₀ (F := F)) 𝒱₀ (c : Thread nD τ) none) Set.univ p Q

/-- Device `c` holds share `q` of the elements of `m` at `P`, reading `v` there. -/
def tl {s : Shape} {e : EltTy} (c : Dev nD) (m : Memref sig .tc .vmem s e) (P : Finset s.Idx) (q : PosShare TreeShare)
    (v : s.Idx → Elt F e) : sProp (MM F) :=
  iprop(∃ f : Buf (Elt F) (m.view.loc (c : Thread nD τ)), ⌜∀ x ∈ P, m.view.read (Elt F) f x = v x⌝
    ∗ (m.view.loc (c : Thread nD τ) ↦[m.view.setOn P]{q} f))

/-- The same at values not named. -/
def tlAny {s : Shape} {e : EltTy} (c : Dev nD) (m : Memref sig .tc .vmem s e) (P : Finset s.Idx) : sProp (MM F) :=
  iprop(∃ v : s.Idx → Elt F e, tl c m P fullShare v)

section Lemmas

variable {s : Shape} {e : EltTy} {c : Dev nD} {m : Memref sig .tc .vmem s e} {P P' : Finset s.Idx}
  {q : PosShare TreeShare} {v v' : s.Idx → Elt F e}

instance tl_storable : BI.Storable (upEmb : UEmb _ (MM F)) (tl c m P q v) := by
  unfold tl; infer_instance

instance tlAny_storable : BI.Storable (upEmb : UEmb _ (MM F)) (tlAny (F := F) c m P) := by
  unfold tlAny; infer_instance

theorem tl_intro {f : Buf (Elt F) (m.view.loc (c : Thread nD τ))} (h : ∀ x ∈ P, m.view.read (Elt F) f x = v x) :
    (m.view.loc (c : Thread nD τ) ↦[m.view.setOn P]{q} f) ⊢ (tl c m P q v : sProp (MM F)) := by
  unfold tl
  iintro H
  iexists f
  isplitr
  · ipureintro; exact h
  iexact H

theorem tl_congr (h : ∀ x ∈ P, v x = v' x) : (tl c m P q v : sProp (MM F)) ⊢ tl c m P q v' := by
  unfold tl
  iintro ⟨%f, %hf, H⟩
  iexists f
  isplitr
  · ipureintro; exact fun x hx => (hf x hx).trans (h x hx)
  iexact H

theorem tl_any : (tl c m P fullShare v : sProp (MM F)) ⊢ tlAny c m P := by
  unfold tlAny; iintro H; iexists v; iexact H

theorem tl_union (h : Disjoint P P') :
    (tl c m (P ∪ P') q v : sProp (MM F)) ⊣⊢ iprop(tl c m P q v ∗ tl c m P' q v) := by
  have hd : Disjoint (m.view.setOn P) (m.view.setOn P') := (Finset.disjoint_map _).mpr h
  have hu : m.view.setOn (P ∪ P') = m.view.setOn P ∪ m.view.setOn P' := by
    unfold View.setOn; exact Finset.map_union P P'
  constructor
  · unfold tl
    rw [hu]
    iintro ⟨%f, %hf, H⟩
    ihave H := (pointsTo_union hd).1 $$ H
    icases H with ⟨H1, H2⟩
    isplitl [H1]
    · iexists f
      isplitr
      · ipureintro; exact fun x hx => hf x (Finset.mem_union_left _ hx)
      iexact H1
    · iexists f
      isplitr
      · ipureintro; exact fun x hx => hf x (Finset.mem_union_right _ hx)
      iexact H2
  · unfold tl
    rw [hu]
    iintro ⟨⟨%f, %hf, H1⟩, %g, %hg, H2⟩
    ihave H := (pointsTo_join (ℓ := m.view.loc (c : Thread nD τ)) (q := q) (f := f) (g := g) hd) $$ [H1 H2]
    · isplitl [H1] <;> iassumption
    iexists ((m.view.setOn P').piecewise g f)
    isplitr
    · ipureintro
      intro x hx
      by_cases h' : x ∈ P'
      · rw [← hg x h']; unfold View.read; rw [Finset.piecewise_eq_of_mem _ _ _ (m.view.mem_setOn.mpr h')]
      · rw [← hf x ((Finset.mem_union.mp hx).resolve_right h')]; unfold View.read
        rw [Finset.piecewise_eq_of_notMem _ _ _ (fun hh => h' (m.view.mem_setOn.mp hh))]
    iexact H

/-- Along a share's two halves. -/
theorem tl_half : (tl c m P q v : sProp (MM F)) ⊣⊢ iprop(tl c m P q.left v ∗ tl c m P q.right v) := by
  constructor
  · unfold tl
    iintro ⟨%f, %hf, H⟩
    ihave H := (pointsTo_share (PosShare.mem_left_op_right q)).1 $$ H
    icases H with ⟨H1, H2⟩
    isplitl [H1]
    · iexists f
      isplitr
      · ipureintro; exact hf
      iexact H1
    · iexists f
      isplitr
      · ipureintro; exact hf
      iexact H2
  · unfold tl
    iintro ⟨⟨%f, %hf, H1⟩, %g, %hg, H2⟩
    have hfg : ∀ i ∈ m.view.setOn P, g i = f i := by
      intro i hi
      obtain ⟨x, hx, rfl⟩ := Finset.mem_map.mp hi
      exact (cast_bijective (congrArg (Elt F) m.view.elt_eq)).1 ((hg x hx).trans (hf x hx).symm)
    iexists f
    isplitr
    · ipureintro; exact hf
    iapply (pointsTo_share (PosShare.mem_left_op_right q)).2
    isplitl [H1]
    · iexact H1
    iapply (Entails.of_eq (pointsTo_congr (ℓ := m.view.loc (c : Thread nD τ)) (q := q.right) hfg))
    iexact H2

/-- A slice held whole is the slice's rectangle of the buffer. -/
theorem tl_slice {R : Rect s} {hR} {w : R.shape.Idx → Elt F e} (h : ∀ x, w x = v (R.emb x)) :
    (tl c (m.slice R hR) Finset.univ q w : sProp (MM F)) ⊣⊢ tl c m R.set q v := by
  have hs : (m.slice R hR).view.setOn Finset.univ = m.view.setOn R.set := m.view.set_slice R
  constructor
  · unfold tl
    rw [hs]
    iintro ⟨%f, %hf, H⟩
    iexists f
    isplitr
    · ipureintro
      intro x hx
      rw [← Rect.map_emb_univ] at hx
      obtain ⟨y, -, rfl⟩ := Finset.mem_map.mp hx
      exact (hf y (Finset.mem_univ _)).trans (h y)
    iexact H
  · unfold tl
    rw [hs]
    iintro ⟨%f, %hf, H⟩
    iexists f
    isplitr
    · ipureintro
      intro x _
      refine (hf (R.emb x) ?_).trans (h x).symm
      rw [← Rect.map_emb_univ]
      exact Finset.mem_map_of_mem _ (Finset.mem_univ x)
    iexact H

variable [FloatOps F] [Facts]

/-- Load a rectangle inside the part held. -/
theorem wp_ld {α : Type} {R : Rect s} {h : 0 < R.shape.numel} {k : (R.shape.Idx → Elt F e) → Pg F α} {Q : α → sProp (MM F)}
    (hR : R.set ⊆ P) :
    iprop(tl c m P q v ∗ (tl c m P q v -∗ WP c (k (fun x => v (R.emb x))) Q)) ⊢ WP c (ld m R h >>= k) Q := by
  rw [show (ld m R h >>= k) = .op (.load m R.toLoadRect (View.loadsAt_vmem h)) k from rfl]
  unfold tl
  iintro ⟨⟨%f, %hf, H⟩, Hk⟩
  have hS : m.view.setOn R.toLoadRect.set ⊆ m.view.setOn P := Finset.map_subset_map.mpr hR
  have hv : m.view.readAt (Elt F) R.toLoadRect f = fun x => v (R.emb x) := by
    funext x
    exact hf (R.emb x) (hR (by rw [← Rect.map_emb_univ]; exact Finset.mem_map_of_mem _ (Finset.mem_univ x)))
  have key := wp_load (defs := defs₀ (F := F)) (Γ := .empty) (Name := ℕ) (U := UU) (Lvl := ℕ) (Ix := Unit) 𝒱₀ (c : Thread nD τ) none Set.univ
    (m := m) (r := R.toLoadRect) (hl := View.loadsAt_vmem h) (k := k) (Q := Q) (q := q) (f := f) hS
  iapply key $$ H
  iintro H
  rw [hv]
  iapply Hk
  iexists f
  isplitr
  · ipureintro; exact hf
  iexact H

/-- Overwrite a rectangle held. -/
theorem wp_st {α : Type} {R : Rect s} {h : 0 < R.shape.numel} {w : R.shape.Idx → Elt F e} {hs : (m.access R).Stores Finset.univ}
    {k : PUnit → Pg F α} {Q : α → sProp (MM F)} (hw : ∀ x, w x = v' (R.emb x)) :
    iprop(tlAny c m R.set ∗ (tl c m R.set fullShare v' -∗ WP c (k ⟨⟩) Q)) ⊢ WP c (st m R h w hs >>= k) Q := by
  unfold tlAny
  iintro ⟨⟨%v, H⟩, Hk⟩
  rw [show (st m R h w hs >>= k) = (ld m R h >>= fun _ => .op (.store m R w Finset.univ hs (.inl rfl)) k) from rfl]
  iapply (wp_ld (m := m) (k := fun _ => .op (.store m R w Finset.univ hs (.inl rfl)) k) (h := h) (Q := Q) (P := R.set) (q := fullShare) (v := v) (Finset.Subset.refl _))
  isplitl [H]
  · iexact H
  unfold tl
  iintro ⟨%f, %hf, H⟩
  have hS : m.view.setOn R.set = (m.access R).setOn Finset.univ := (m.view.set_slice R).symm
  rw [hS]
  have key := wp_store (defs := defs₀ (F := F)) (Γ := .empty) (Name := ℕ) (U := UU) (Lvl := ℕ) (Ix := Unit) 𝒱₀ (c : Thread nD τ) none Set.univ
    (m := m) (r := R) (w := w) (Mk := Finset.univ) (hx := hs) (hm := .inl rfl) (k := k) (Q := Q) (f := f) (Finset.Subset.refl _)
  iapply key $$ H
  iintro H
  iapply Hk
  iexists ((m.access R).write (Elt F) f w Finset.univ)
  isplitr
  · ipureintro
    intro x hx
    rw [← Rect.map_emb_univ] at hx
    obtain ⟨y, -, rfl⟩ := Finset.mem_map.mp hx
    exact (m.view.read_slice_write_emb R f w (Finset.mem_univ y)).trans (hw y)
  iexact H

end Lemmas

end Cert.KernelIdeal.Hand
-- ==== Proof.Tiling.lean ====
/- A buffer's index set cut into rectangles: values assembled from tiles, and a buffer held whole as its
   tiles held. -/
module

public import proofs.«01_k».proof.Proof.Held

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Rectangles that partition a shape's indices. -/
structure Tiling (T : Type) (s : Shape) where
  K : T → Rect s
  disj : ∀ t t', t ≠ t' → Disjoint (K t).set (K t').set
  cover : ∀ i : s.Idx, ∃ t, i ∈ (K t).set

namespace Tiling

variable {T : Type} {s : Shape} (G : Tiling T s)

theorem exists_emb (i : s.Idx) : ∃ t, ∃ y, (G.K t).emb y = i := by
  obtain ⟨t, ht⟩ := G.cover i
  rw [← Rect.map_emb_univ] at ht
  obtain ⟨y, -, hy⟩ := Finset.mem_map.mp ht
  exact ⟨t, y, hy⟩

theorem emb_mem (t : T) (y : (G.K t).shape.Idx) : (G.K t).emb y ∈ (G.K t).set := by
  rw [← Rect.map_emb_univ]; exact Finset.mem_map_of_mem _ (Finset.mem_univ y)

/-- The values whose tile `t` is `w t`. -/
def glue {α : Type} (w : ∀ t, (G.K t).shape.Idx → α) : s.Idx → α := fun i =>
  w (G.exists_emb i).choose (G.exists_emb i).choose_spec.choose

theorem glue_emb {α : Type} (w : ∀ t, (G.K t).shape.Idx → α) (t : T) (y : (G.K t).shape.Idx) :
    G.glue w ((G.K t).emb y) = w t y := by
  unfold glue
  generalize hE : G.exists_emb ((G.K t).emb y) = E
  have h := E.choose_spec.choose_spec
  generalize E.choose_spec.choose = z at h
  revert z
  generalize E.choose = t'
  intro z h
  have ht : t' = t := by
    by_contra hne
    exact Finset.disjoint_left.mp (G.disj t' t hne) (G.emb_mem t' z) (h ▸ G.emb_mem t y)
  subst ht
  rw [(G.K t').emb.injective h]

/-- Two values that agree on every tile are equal. -/
theorem ext {α : Type} {v v' : s.Idx → α} (h : ∀ t y, v ((G.K t).emb y) = v' ((G.K t).emb y)) : v = v' := by
  funext i
  obtain ⟨t, y, rfl⟩ := G.exists_emb i
  exact h t y

theorem biUnion_eq [Fintype T] : Finset.univ.biUnion (fun t => (G.K t).set) = Finset.univ := by
  ext i
  simp only [Finset.mem_biUnion, Finset.mem_univ, true_and, iff_true]
  exact G.cover i

end Tiling

variable {F : FTy → Type}

theorem tl_biUnion {T : Type} [DecidableEq T] {s : Shape} {e : EltTy} {c : Dev nD} {m : Memref sig .tc .vmem s e}
    {q : PosShare TreeShare} {v : s.Idx → Elt F e} (K : T → Finset s.Idx)
    (hd : ∀ t t', t ≠ t' → Disjoint (K t) (K t')) (S : Finset T) (hS : S.Nonempty) :
    (tl c m (S.biUnion K) q v : sProp (MM F)) = bigSep S (fun t => tl c m (K t) q v) := by
  induction hS using Finset.Nonempty.cons_induction with
  | singleton a => rw [Finset.singleton_biUnion, bigSep_singleton]
  | cons a S ha hS ih =>
    rw [Finset.cons_eq_insert, Finset.biUnion_insert, bigSep_insert ha, ← ih]
    refine BI.Entails.antisymm ?_ ?_
    · exact (tl_union ((Finset.disjoint_biUnion_right _ _ _).mpr fun t ht => hd a t fun h => ha (h ▸ ht))).1
    · exact (tl_union ((Finset.disjoint_biUnion_right _ _ _).mpr fun t ht => hd a t fun h => ha (h ▸ ht))).2

/-- Held whole is every tile held. -/
theorem tl_tiles {T : Type} [DecidableEq T] [Fintype T] [Nonempty T] {s : Shape} {e : EltTy} {c : Dev nD}
    {m : Memref sig .tc .vmem s e} {q : PosShare TreeShare} {v : s.Idx → Elt F e} (G : Tiling T s) :
    (tl c m Finset.univ q v : sProp (MM F)) = bigSep Finset.univ (fun t => tl c m (G.K t).set q v) := by
  rw [← G.biUnion_eq]
  exact tl_biUnion _ G.disj _ Finset.univ_nonempty

/-! ### The tilings of this kernel -/

def rowsT (n : Nat) : Tiling (Fin 4) ⟨2, ![1024, n]⟩ where
  K := rowR n
  disj t t' h := by
    rw [Finset.disjoint_left]
    intro i hi hi'
    rw [Rect.mem_set_unit] at hi hi'
    have h0 := hi 0
    have h0' := hi' 0
    simp at h0 h0'
    exact h (Fin.ext (by omega))
  cover i := by
    have h0 : (i 0).val < 1024 := (i 0).isLt
    have h1 : (i 1).val < n := (i 1).isLt
    refine ⟨⟨(i 0).val / 256, by omega⟩, ?_⟩
    rw [Rect.mem_set_unit]
    intro a
    fin_cases a <;> simp <;> omega

def headsT : Tiling (Fin 8) S1024x1024 where
  K := headR
  disj t t' h := by
    rw [Finset.disjoint_left]
    intro i hi hi'
    rw [Rect.mem_set_unit] at hi hi'
    have h0 := hi 1
    have h0' := hi' 1
    simp at h0 h0'
    exact h (Fin.ext (by omega))
  cover i := by
    have h0 : (i 0).val < 1024 := (i 0).isLt
    have h1 : (i 1).val < 1024 := (i 1).isLt
    refine ⟨⟨(i 1).val / 128, by omega⟩, ?_⟩
    rw [Rect.mem_set_unit]
    intro a
    fin_cases a <;> simp <;> omega

def tilesT : Tiling (Fin 8 × Fin 2) S1024x1024 where
  K p := tileR p.1 p.2
  disj t t' h := by
    rw [Finset.disjoint_left]
    intro i hi hi'
    rw [Rect.mem_set_unit] at hi hi'
    have h1 := hi 1
    have h1' := hi' 1
    have h0 := hi 0
    have h0' := hi' 0
    simp at h0 h0' h1 h1'
    exact h (Prod.ext (Fin.ext (by omega)) (Fin.ext (by omega)))
  cover i := by
    have h0 : (i 0).val < 1024 := (i 0).isLt
    have h1 : (i 1).val < 1024 := (i 1).isLt
    refine ⟨(⟨(i 1).val / 128, by omega⟩, ⟨(i 0).val / 512, by omega⟩), ?_⟩
    rw [Rect.mem_set_unit]
    intro a
    fin_cases a <;> simp <;> omega

def outT : Tiling (Fin 2 × Fin 2) S2x512x2048 where
  K p := outR p.1 p.2
  disj t t' h := by
    rw [Finset.disjoint_left]
    intro i hi hi'
    rw [Rect.mem_set_unit] at hi hi'
    have h1 := hi 1
    have h1' := hi' 1
    have h0 := hi 0
    have h0' := hi' 0
    simp at h0 h0' h1 h1'
    exact h (Prod.ext (Fin.ext (by omega)) (Fin.ext (by omega)))
  cover i := by
    have h0 : (i 0).val < 2 := (i 0).isLt
    have h1 : (i 1).val < 512 := (i 1).isLt
    have h2 : (i 2).val < 2048 := (i 2).isLt
    refine ⟨(⟨(i 0).val, by omega⟩, ⟨(i 1).val / 256, by omega⟩), ?_⟩
    rw [Rect.mem_set_unit]
    intro a
    fin_cases a <;> simp <;> omega

theorem head_disj (h : Fin 8) : Disjoint (tileR h 0).set (tileR h 1).set :=
  tilesT.disj (h, 0) (h, 1) (by simp)

theorem head_union (h : Fin 8) : (headR h).set = (tileR h 0).set ∪ (tileR h 1).set := by
  ext i
  rw [Finset.mem_union, Rect.mem_set_unit, Rect.mem_set_unit, Rect.mem_set_unit]
  have h0 : (i 0).val < 1024 := (i 0).isLt
  constructor
  · intro hh
    have h1 := hh 1
    simp at h1
    by_cases hb : (i 0).val < 512
    · left; intro a; fin_cases a <;> simp <;> omega
    · right; intro a; fin_cases a <;> simp <;> omega
  · rintro (hh | hh) <;>
    · have h1 := hh 1
      simp at h1
      intro a; fin_cases a <;> simp <;> omega

theorem allR_set (m n : Nat) : (allR m n).set = Finset.univ := by
  ext i
  rw [Rect.mem_set_unit]
  have h0 := (i 0).isLt
  have h1 := (i 1).isLt
  simp only [Finset.mem_univ, iff_true]
  intro a
  fin_cases a
  · exact ⟨Nat.zero_le _, by simpa using h0⟩
  · exact ⟨Nat.zero_le _, by simpa using h1⟩

/-- Held at a head's columns is held at its two tiles. -/
theorem tl_head {c : Dev nD} {m : Memref sig .tc .vmem S1024x1024 .bf16} {q : PosShare TreeShare}
    {v : S1024x1024.Idx → Elt F .bf16} (h : Fin 8) :
    (tl c m (headR h).set q v : sProp (MM F)) ⊣⊢ iprop(tl c m (tileR h 0).set q v ∗ tl c m (tileR h 1).set q v) := by
  rw [head_union]; exact tl_union (head_disj h)

theorem bigSep4 (Φ : Fin 4 → sProp (MM F)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

theorem bigSep22 (Φ : Fin 2 × Fin 2 → sProp (MM F)) :
    bigSep Finset.univ Φ = iprop(Φ (0, 0) ∗ Φ (0, 1) ∗ Φ (1, 0) ∗ Φ (1, 1)) := by
  rw [show (Finset.univ : Finset (Fin 2 × Fin 2)) = {(0, 0), (0, 1), (1, 0), (1, 1)} from by decide, bigSep_insert (by decide),
    bigSep_insert (by decide), bigSep_insert (by decide), bigSep_singleton]
  rfl

theorem bigSep8 (Φ : Fin 8 → sProp (MM F)) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide),
    bigSep_insert (by decide), bigSep_singleton]
  rfl

end Cert.KernelIdeal.Hand
-- ==== Proof.Contents.lean ====
/- The mesh, and what each buffer of the kernel holds, as functions of what the devices were launched on. -/
module

public import proofs.«01_k».proof.Proof.Tiling

@[expose] public section

noncomputable section

namespace Cert.KernelIdeal.Hand

open Idealize.ShloMosaic Idealize.ShloMosaic.TcCoe
open Cert.KernelIdeal Facts₀ Facts

/-! ### The mesh: device `2 x + y` -/

/-- The neighbour along the first axis, which holds the other half of the latent. -/
def xn (c : Dev nD) : Dev nD := ⟨(c.val + 2) % 4, Nat.mod_lt _ (by decide)⟩
/-- The neighbour along the second axis, which holds the other heads. -/
def yn (c : Dev nD) : Dev nD := ⟨c.val + 1 - 2 * (c.val % 2), by revert c; decide⟩

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide

def xnE : Dev nD ≃ Dev nD := ⟨xn, xn, xn_xn, xn_xn⟩
def ynE : Dev nD ≃ Dev nD := ⟨yn, yn, yn_yn, yn_yn⟩

section Devices
variable [Facts] (c : Dev nD)
theorem dev1_eq : (⟨k0_dev1 c, k0_dev1_lt c⟩ : Dev nD) = xn c := Fin.ext ((by decide : ∀ d : Dev nD, k0_dev1 d = (xn d).val) c)
theorem dev2_eq : (⟨k0_dev2 c, k0_dev2_lt c⟩ : Dev nD) = yn c := Fin.ext ((by decide : ∀ d : Dev nD, k0_dev2 d = (yn d).val) c)
theorem dev3_eq : (⟨k0_dev3 c, k0_dev3_lt c⟩ : Dev nD) = xn c := Fin.ext ((by decide : ∀ d : Dev nD, k0_dev3 d = (xn d).val) c)
theorem dev4_eq : (⟨k0_dev4 c, k0_dev4_lt c⟩ : Dev nD) = xn c := Fin.ext ((by decide : ∀ d : Dev nD, k0_dev4 d = (xn d).val) c)
theorem dev5_eq : (⟨k0_dev5 c, k0_dev5_lt c⟩ : Dev nD) = xn c := Fin.ext ((by decide : ∀ d : Dev nD, k0_dev5 d = (xn d).val) c)
theorem dev6_eq : (⟨k0_dev6 c, k0_dev6_lt c⟩ : Dev nD) = yn c := Fin.ext ((by decide : ∀ d : Dev nD, k0_dev6 d = (yn d).val) c)
theorem dev7_eq : (⟨k0_dev7 c, k0_dev7_lt c⟩ : Dev nD) = yn c := Fin.ext ((by decide : ∀ d : Dev nD, k0_dev7 d = (yn d).val) c)
theorem dev8_eq : (⟨k0_dev8 c, k0_dev8_lt c⟩ : Dev nD) = yn c := Fin.ext ((by decide : ∀ d : Dev nD, k0_dev8 d = (yn d).val) c)
theorem dev9_eq : (⟨k0_dev9 c, k0_dev9_lt c⟩ : Dev nD) = yn c := Fin.ext ((by decide : ∀ d : Dev nD, k0_dev9 d = (yn d).val) c)
theorem dev10_eq : (⟨k0_dev10 c, k0_dev10_lt c⟩ : Dev nD) = yn c := Fin.ext ((by decide : ∀ d : Dev nD, k0_dev10 d = (yn d).val) c)
theorem dev11_eq : (⟨k0_dev11 c, k0_dev11_lt c⟩ : Dev nD) = yn c := Fin.ext ((by decide : ∀ d : Dev nD, k0_dev11 d = (yn d).val) c)
theorem dev12_eq : (⟨k0_dev12 c, k0_dev12_lt c⟩ : Dev nD) = yn c := Fin.ext ((by decide : ∀ d : Dev nD, k0_dev12 d = (yn d).val) c)
theorem dev13_eq : (⟨k0_dev13 c, k0_dev13_lt c⟩ : Dev nD) = yn c := Fin.ext ((by decide : ∀ d : Dev nD, k0_dev13 d = (yn d).val) c)
end Devices

/-! ### Contents -/

variable {F : FTy → Type} [FloatOps F] [Facts]

variable (F) in
/-- What one device's input windows hold. -/
structure In where
  x : Vec F S2x512x2048 .bf16
  wdkv : Vec F S2048x128 .bf16
  wuk : Vec F S128x1024 .bf16
  wuv : Vec F S128x1024 .bf16
  wq : Vec F S2048x1024 .bf16
  wqr : Vec F S2048x256 .bf16
  wkr : Vec F S2048x32 .bf16
  woM : Vec F S1024x2048 .bf16
  woO : Vec F S1024x2048 .bf16

/-- A whole two-dimensional value as a whole-buffer load reads it. -/
def allV {m n : Nat} {e : EltTy} (w : (⟨2, ![m, n]⟩ : Shape).Idx → Elt F e) : (allR m n).shape.Idx → Elt F e :=
  fun y => w ((allR m n).emb y)

/-- A row block of a value. -/
def rowV {n : Nat} {e : EltTy} (w : (⟨2, ![1024, n]⟩ : Shape).Idx → Elt F e) (j : Fin 4) : (rowR n j).shape.Idx → Elt F e :=
  fun y => w ((rowR n j).emb y)

/-- The rows of one batch of a value. -/
def batV {n : Nat} {e : EltTy} (w : (⟨2, ![1024, n]⟩ : Shape).Idx → Elt F e) (b : Fin 2) : (batR n b).shape.Idx → Elt F e :=
  fun y => w ((batR n b).emb y)

/-- One head's columns of one batch of a value. -/
def tileV {e : EltTy} (w : S1024x1024.Idx → Elt F e) (h : Fin 8) (b : Fin 2) : (tileR h b).shape.Idx → Elt F e :=
  fun y => w ((tileR h b).emb y)

/-- One batch of the input. -/
def xV (I : In F) (b : Fin 2) : Vec F S1x512x2048 .bf16 := fun y => I.x ((xR b).emb y)

abbrev jb (j : Fin 4) : Fin 2 := ⟨j.val / 2, by omega⟩
abbrev jk (j : Fin 4) : Fin 2 := ⟨j.val % 2, by omega⟩
theorem jb_row4 (b k : Fin 2) : jb (row4 b k) = b := by revert b k; decide
theorem jk_row4 (b k : Fin 2) : jk (row4 b k) = k := by revert b k; decide

/-- Rows `256 j …` of the input. -/
def xRows (I : In F) (j : Fin 4) : FVec F S256x2048 .bf16 := xT (jk j) (xV I (jb j))
theorem xRows_row4 (I : In F) (b k : Fin 2) : xRows I (row4 b k) = xT k (xV I b) := by
  unfold xRows; rw [jb_row4, jk_row4]

/-- The latent. -/
def cV (I : In F) : S1024x128.Idx → Elt F .bf16 := (rowsT 128).glue fun j => cT (xRows I j) (allV I.wdkv)
/-- The queries. -/
def qV (I : In F) : S1024x1024.Idx → Elt F .bf16 := (rowsT 1024).glue fun j => qT (xRows I j) (allV I.wq)
/-- The rotary queries. -/
def qrV (I : In F) : S1024x256.Idx → Elt F .bf16 := (rowsT 256).glue fun j => qrT (xRows I j) (allV I.wqr)
/-- The rotary keys. -/
def krV (I : In F) : S1024x32.Idx → Elt F .bf16 := (rowsT 32).glue fun j => krT (xRows I j) (allV I.wkr)

/-- Keys or values from the two halves of the latent. -/
def kvV (c cn : S1024x128.Idx → Elt F .bf16) (w wn : Vec F S128x1024 .bf16) : S1024x1024.Idx → Elt F .bf16 :=
  (rowsT 1024).glue fun j => kvT (rowV c j) (rowV cn j) (allV w) (allV wn)

/-- The attention output of this device's heads. -/
def attV (kr : S1024x32.Idx → Elt F .bf16) (qr : S1024x256.Idx → Elt F .bf16) (q k v : S1024x1024.Idx → Elt F .bf16) :
    S1024x1024.Idx → Elt F .bf16 :=
  tilesT.glue fun p => attnT p.1 (batV kr p.2) (batV qr p.2) (tileV q p.1 p.2) (tileV k p.1 p.2) (tileV v p.1 p.2)

/-- The output after this device's heads. -/
def out1V (o : S1024x1024.Idx → Elt F .bf16) (w : Vec F S1024x2048 .bf16) : S2x512x2048.Idx → Elt F .f32 :=
  outT.glue fun p => out1T (rowV o (row4 p.1 p.2)) (allV w)

/-- The output block as it is read back. -/
def outBlk (v : S2x512x2048.Idx → Elt F .f32) (b k : Fin 2) : (outR b k).shape.Idx → Elt F .f32 :=
  fun y => v ((outR b k).emb y)

/-- The output. -/
def out2V (old : S2x512x2048.Idx → Elt F .f32) (o : S1024x1024.Idx → Elt F .bf16) (w : Vec F S1024x2048 .bf16) :
    S2x512x2048.Idx → Elt F .f32 :=
  outT.glue fun p => out2T (outBlk old p.1 p.2) (rowV o (row4 p.1 p.2)) (allV w)

variable (ins : Dev nD → In F) (c : Dev nD)

def kD : S1024x1024.Idx → Elt F .bf16 := kvV (cV (ins c)) (cV (ins (xn c))) (ins c).wuk (ins (xn c)).wuk
def vD : S1024x1024.Idx → Elt F .bf16 := kvV (cV (ins c)) (cV (ins (xn c))) (ins c).wuv (ins (xn c)).wuv
/-- Device `c`'s attention output. -/
def aD : S1024x1024.Idx → Elt F .bf16 := attV (krV (ins c)) (qrV (ins c)) (qV (ins c)) (kD ins c) (vD ins c)
/-- Device `c`'s output. -/
def oD : S2x512x2048.Idx → Elt F .f32 := out2V (out1V (aD ins c) (ins c).woM) (aD ins (yn c)) (ins c).woO

end Cert.KernelIdeal.Hand
-- ==== Proof.Runs.lean ====
/- What each piece of the body does to the buffers it holds. -/
module

public import proofs.«01_k».proof.Proof.Contents

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Facts₀ Facts

variable {F : FTy → Type} [FloatOps F] [Facts]

theorem WP_ret {α : Type} {c : Dev nD} {a : α} {Q : α → sProp (MM F)} : Q a ⊢ WP c (.ret a) Q := by
  show Q a ⊢ iprop(|={Set.univ}=> Q a)
  iintro H
  imodintro
  iexact H

theorem WP_bind {α β : Type} {c : Dev nD} {p : Pg F α} {k : α → Pg F β} {Q : β → sProp (MM F)} :
    WP c (p >>= k) Q = WP c p (fun a => WP c (k a) Q) := wp_bind ..

/-- Overwrite a rectangle held, at the end of a piece. -/
theorem wp_st_end {s : Shape} {e : EltTy} {c : Dev nD} {m : Memref sig .tc .vmem s e} {v' : s.Idx → Elt F e} {R : Rect s}
    {h : 0 < R.shape.numel} {w : R.shape.Idx → Elt F e} {hs : (m.access R).Stores Finset.univ}
    {K : PUnit → sProp (MM F)} (hw : ∀ x, w x = v' (R.emb x)) :
    iprop(tlAny c m R.set ∗ (tl c m R.set fullShare v' -∗ K ⟨⟩)) ⊢ WP c (st m R h w hs) K := by
  rw [show st m R h w hs = (st m R h w hs >>= fun _ => .ret ⟨⟩) from rfl]
  iintro ⟨H, Hk⟩
  iapply (wp_st (m := m) (R := R) (h := h) (hs := hs) hw)
  isplitl [H]
  · iexact H
  iintro H
  iapply WP_ret
  iapply Hk
  iexact H

section

variable (c : Dev nD) (I : In F) (K : PUnit → sProp (MM F))

/-- The latent's row blocks of batch `b`. -/
theorem cPart_run (mx : Memref sig .tc .vmem S2x512x2048 .bf16) (mw : Memref sig .tc .vmem S2048x128 .bf16)
    (mc : Memref sig .tc .vmem S1024x128 .bf16) (hc : mc.IsWhole) (b : Fin 2) :
    iprop((tl c mx Finset.univ fullShare I.x ∗ tl c mw Finset.univ fullShare I.wdkv
        ∗ tlAny c mc (rowR 128 (row4 b 0)).set ∗ tlAny c mc (rowR 128 (row4 b 1)).set)
      ∗ ((tl c mx Finset.univ fullShare I.x ∗ tl c mw Finset.univ fullShare I.wdkv
        ∗ tl c mc (rowR 128 (row4 b 0)).set fullShare (cV I) ∗ tl c mc (rowR 128 (row4 b 1)).set fullShare (cV I)) -∗ K ⟨⟩))
      ⊢ WP c (cPart mx mw mc hc b) K := by
  have h0 : ∀ k y, cT (xT k (xV I b)) (allV I.wdkv) y = cV I ((rowR 128 (row4 b k)).emb y) := by
    intro k y
    refine Eq.trans ?_ ((rowsT 128).glue_emb _ (row4 b k) y).symm
    rw [xRows_row4]
  unfold cPart
  iintro ⟨⟨Hx, Hw, H0, H1⟩, Hk⟩
  iapply (wp_ld (Finset.subset_univ _))
  isplitl [Hx]; · iexact Hx
  iintro Hx
  iapply (wp_ld (Finset.subset_univ _))
  isplitl [Hw]; · iexact Hw
  iintro Hw
  iapply (wp_st (h0 0))
  isplitl [H0]; · iexact H0
  iintro H0
  iapply (wp_ld (Finset.subset_univ _))
  isplitl [Hw]; · iexact Hw
  iintro Hw
  iapply (wp_st_end (h0 1))
  isplitl [H1]; · iexact H1
  iintro H1
  iapply Hk
  isplitl [Hx]; · iexact Hx
  isplitl [Hw]; · iexact Hw
  isplitl [H0]; · iexact H0
  iexact H1

/-- Row block `k` of batch `b` of the three products. -/
theorem qRow_run (mq : Memref sig .tc .vmem S2048x1024 .bf16) (mqr : Memref sig .tc .vmem S2048x256 .bf16)
    (mkr : Memref sig .tc .vmem S2048x32 .bf16) (q : Memref sig .tc .vmem S1024x1024 .bf16) (hq : q.IsWhole)
    (qr : Memref sig .tc .vmem S1024x256 .bf16) (hqr : qr.IsWhole) (kr : Memref sig .tc .vmem S1024x32 .bf16)
    (hkr : kr.IsWhole) (b k : Fin 2) :
    iprop((tl c mq Finset.univ fullShare I.wq ∗ tl c mqr Finset.univ fullShare I.wqr ∗ tl c mkr Finset.univ fullShare I.wkr
        ∗ tlAny c q (rowR 1024 (row4 b k)).set ∗ tlAny c qr (rowR 256 (row4 b k)).set ∗ tlAny c kr (rowR 32 (row4 b k)).set)
      ∗ ((tl c mq Finset.univ fullShare I.wq ∗ tl c mqr Finset.univ fullShare I.wqr ∗ tl c mkr Finset.univ fullShare I.wkr
        ∗ tl c q (rowR 1024 (row4 b k)).set fullShare (qV I) ∗ tl c qr (rowR 256 (row4 b k)).set fullShare (qrV I)
        ∗ tl c kr (rowR 32 (row4 b k)).set fullShare (krV I)) -∗ K ⟨⟩))
      ⊢ WP c (qRow mq mqr mkr q hq qr hqr kr hkr b k (xV I b)) K := by
  have hQ : ∀ y, qT (xT k (xV I b)) (allV I.wq) y = qV I ((rowR 1024 (row4 b k)).emb y) := by
    intro y
    refine Eq.trans ?_ ((rowsT 1024).glue_emb _ (row4 b k) y).symm
    rw [xRows_row4]
  have hQr : ∀ y, qrT (xT k (xV I b)) (allV I.wqr) y = qrV I ((rowR 256 (row4 b k)).emb y) := by
    intro y
    refine Eq.trans ?_ ((rowsT 256).glue_emb _ (row4 b k) y).symm
    rw [xRows_row4]
  have hKr : ∀ y, krT (xT k (xV I b)) (allV I.wkr) y = krV I ((rowR 32 (row4 b k)).emb y) := by
    intro y
    refine Eq.trans ?_ ((rowsT 32).glue_emb _ (row4 b k) y).symm
    rw [xRows_row4]
  unfold qRow
  iintro ⟨⟨Hq, Hqr, Hkr, H0, H1, H2⟩, Hk⟩
  iapply (wp_ld (Finset.subset_univ _))
  isplitl [Hq]; · iexact Hq
  iintro Hq
  iapply (wp_st hQ)
  isplitl [H0]; · iexact H0
  iintro H0
  iapply (wp_ld (Finset.subset_univ _))
  isplitl [Hqr]; · iexact Hqr
  iintro Hqr
  iapply (wp_st hQr)
  isplitl [H1]; · iexact H1
  iintro H1
  iapply (wp_ld (Finset.subset_univ _))
  isplitl [Hkr]; · iexact Hkr
  iintro Hkr
  iapply (wp_st_end hKr)
  isplitl [H2]; · iexact H2
  iintro H2
  iapply Hk
  isplitl [Hq]; · iexact Hq
  isplitl [Hqr]; · iexact Hqr
  isplitl [Hkr]; · iexact Hkr
  isplitl [H0]; · iexact H0
  isplitl [H1]; · iexact H1
  iexact H2

/-- What the three products of batch `b` read. -/
def qIns (mx : Memref sig .tc .vmem S2x512x2048 .bf16) (mq : Memref sig .tc .vmem S2048x1024 .bf16)
    (mqr : Memref sig .tc .vmem S2048x256 .bf16) (mkr : Memref sig .tc .vmem S2048x32 .bf16) : sProp (MM F) :=
  iprop(tl c mx Finset.univ fullShare I.x ∗ tl c mq Finset.univ fullShare I.wq ∗ tl c mqr Finset.univ fullShare I.wqr
    ∗ tl c mkr Finset.univ fullShare I.wkr)

/-- Row block `j` of what they write, before, -/
def qBefore (q : Memref sig .tc .vmem S1024x1024 .bf16) (qr : Memref sig .tc .vmem S1024x256 .bf16)
    (kr : Memref sig .tc .vmem S1024x32 .bf16) (j : Fin 4) : sProp (MM F) :=
  iprop(tlAny c q (rowR 1024 j).set ∗ tlAny c qr (rowR 256 j).set ∗ tlAny c kr (rowR 32 j).set)

/-- and after. -/
def qAfter (q : Memref sig .tc .vmem S1024x1024 .bf16) (qr : Memref sig .tc .vmem S1024x256 .bf16)
    (kr : Memref sig .tc .vmem S1024x32 .bf16) (j : Fin 4) : sProp (MM F) :=
  iprop(tl c q (rowR 1024 j).set fullShare (qV I) ∗ tl c qr (rowR 256 j).set fullShare (qrV I)
    ∗ tl c kr (rowR 32 j).set fullShare (krV I))

/-- The three products of batch `b`. -/
theorem qPart_run (mx : Memref sig .tc .vmem S2x512x2048 .bf16) (mq : Memref sig .tc .vmem S2048x1024 .bf16)
    (mqr : Memref sig .tc .vmem S2048x256 .bf16)
    (mkr : Memref sig .tc .vmem S2048x32 .bf16) (q : Memref sig .tc .vmem S1024x1024 .bf16) (hq : q.IsWhole)
    (qr : Memref sig .tc .vmem S1024x256 .bf16) (hqr : qr.IsWhole) (kr : Memref sig .tc .vmem S1024x32 .bf16)
    (hkr : kr.IsWhole) (b : Fin 2) :
    iprop((qIns c I mx mq mqr mkr ∗ qBefore c q qr kr (row4 b 0) ∗ qBefore c q qr kr (row4 b 1))
      ∗ ((qIns c I mx mq mqr mkr ∗ qAfter c I q qr kr (row4 b 0) ∗ qAfter c I q qr kr (row4 b 1)) -∗ K ⟨⟩))
      ⊢ WP c (qPart mx mq mqr mkr q hq qr hqr kr hkr b) K := by
  unfold qPart qIns qBefore
  iintro ⟨⟨⟨Hx, Hq, Hqr, Hkr⟩, ⟨A0, A1, A2⟩, B0, B1, B2⟩, Hk⟩
  iapply (wp_ld (Finset.subset_univ _))
  isplitl [Hx]; · iexact Hx
  iintro Hx
  rw [WP_bind]
  iapply (qRow_run c I _ mq mqr mkr q hq qr hqr kr hkr b 0)
  isplitl [Hq Hqr Hkr A0 A1 A2]
  · isplitl [Hq]; · iexact Hq
    isplitl [Hqr]; · iexact Hqr
    isplitl [Hkr]; · iexact Hkr
    isplitl [A0]; · iexact A0
    isplitl [A1]; · iexact A1
    iexact A2
  iintro ⟨Hq, Hqr, Hkr, A0, A1, A2⟩
  iapply (qRow_run c I _ mq mqr mkr q hq qr hqr kr hkr b 1)
  isplitl [Hq Hqr Hkr B0 B1 B2]
  · isplitl [Hq]; · iexact Hq
    isplitl [Hqr]; · iexact Hqr
    isplitl [Hkr]; · iexact Hkr
    isplitl [B0]; · iexact B0
    isplitl [B1]; · iexact B1
    iexact B2
  iintro ⟨Hq, Hqr, Hkr, B0, B1, B2⟩
  iapply Hk
  isplitl [Hx Hq Hqr Hkr]
  · isplitl [Hx]; · iexact Hx
    isplitl [Hq]; · iexact Hq
    isplitl [Hqr]; · iexact Hqr
    iexact Hkr
  unfold qAfter
  isplitl [A0 A1 A2]
  · isplitl [A0]; · iexact A0
    isplitl [A1]; · iexact A1
    iexact A2
  isplitl [B0]; · iexact B0
  isplitl [B1]; · iexact B1
  iexact B2

/-- What the keys and values are made from. -/
def kvIns (Ic In' : In F) (mc mcn : Memref sig .tc .vmem S1024x128 .bf16) (wk wkn wv wvn : Memref sig .tc .vmem S128x1024 .bf16) :
    sProp (MM F) :=
  iprop(tl c mc Finset.univ fullShare (cV Ic) ∗ tl c mcn Finset.univ fullShare (cV In')
    ∗ tl c wk Finset.univ fullShare Ic.wuk ∗ tl c wkn Finset.univ fullShare In'.wuk
    ∗ tl c wv Finset.univ fullShare Ic.wuv ∗ tl c wvn Finset.univ fullShare In'.wuv)

/-- Row block `j` of the keys and values, before and after. -/
def kvBefore (k v : Memref sig .tc .vmem S1024x1024 .bf16) (j : Fin 4) : sProp (MM F) :=
  iprop(tlAny c k (rowR 1024 j).set ∗ tlAny c v (rowR 1024 j).set)
def kvAfter (Ic In' : In F) (k v : Memref sig .tc .vmem S1024x1024 .bf16) (j : Fin 4) : sProp (MM F) :=
  iprop(tl c k (rowR 1024 j).set fullShare (kvV (cV Ic) (cV In') Ic.wuk In'.wuk)
    ∗ tl c v (rowR 1024 j).set fullShare (kvV (cV Ic) (cV In') Ic.wuv In'.wuv))

/-- Row block `j` of the keys and values. -/
theorem kvPart_run (Ic In' : In F) (mc mcn : Memref sig .tc .vmem S1024x128 .bf16)
    (wk wkn wv wvn : Memref sig .tc .vmem S128x1024 .bf16)
    (k : Memref sig .tc .vmem S1024x1024 .bf16) (hk : k.IsWhole)
    (v : Memref sig .tc .vmem S1024x1024 .bf16) (hv : v.IsWhole) (j : Fin 4) :
    iprop((kvIns c Ic In' mc mcn wk wkn wv wvn ∗ kvBefore c k v j)
      ∗ ((kvIns c Ic In' mc mcn wk wkn wv wvn ∗ kvAfter c Ic In' k v j) -∗ K ⟨⟩))
      ⊢ WP c (kvPart mc mcn wk wkn wv wvn k hk v hv j) K := by
  have hK : ∀ (w wn : Vec F S128x1024 .bf16) y,
      kvT (rowV (cV Ic) j) (rowV (cV In') j) (allV w) (allV wn) y = kvV (cV Ic) (cV In') w wn ((rowR 1024 j).emb y) :=
    fun w wn y => Eq.trans (by rfl) ((rowsT 1024).glue_emb _ j y).symm
  unfold kvPart kvIns kvBefore
  iintro ⟨⟨⟨Hc, Hcn, Hwk, Hwkn, Hwv, Hwvn⟩, A, B⟩, Hk⟩
  iapply (wp_ld (Finset.subset_univ _))
  isplitl [Hc]; · iexact Hc
  iintro Hc
  iapply (wp_ld (Finset.subset_univ _))
  isplitl [Hcn]; · iexact Hcn
  iintro Hcn
  iapply (wp_ld (Finset.subset_univ _))
  isplitl [Hwk]; · iexact Hwk
  iintro Hwk
  iapply (wp_ld (Finset.subset_univ _))
  isplitl [Hwkn]; · iexact Hwkn
  iintro Hwkn
  iapply (wp_st (hK Ic.wuk In'.wuk))
  isplitl [A]; · iexact A
  iintro A
  iapply (wp_ld (Finset.subset_univ _))
  isplitl [Hwv]; · iexact Hwv
  iintro Hwv
  iapply (wp_ld (Finset.subset_univ _))
  isplitl [Hwvn]; · iexact Hwvn
  iintro Hwvn
  iapply (wp_st_end (hK Ic.wuv In'.wuv))
  isplitl [B]; · iexact B
  iintro B
  iapply Hk
  unfold kvAfter
  isplitl [Hc Hcn Hwk Hwkn Hwv Hwvn]
  · isplitl [Hc]; · iexact Hc
    isplitl [Hcn]; · iexact Hcn
    isplitl [Hwk]; · iexact Hwk
    isplitl [Hwkn]; · iexact Hwkn
    isplitl [Hwv]; · iexact Hwv
    iexact Hwvn
  isplitl [A]; · iexact A
  iexact B

/-- What every attention tile reads whole. -/
def atIns (mkr : Memref sig .tc .vmem S1024x32 .bf16) (mqr : Memref sig .tc .vmem S1024x256 .bf16)
    (mk mv : Memref sig .tc .vmem S1024x1024 .bf16) (kr : S1024x32.Idx → Elt F .bf16) (qr : S1024x256.Idx → Elt F .bf16)
    (k v : S1024x1024.Idx → Elt F .bf16) : sProp (MM F) :=
  iprop(tl c mkr Finset.univ fullShare kr ∗ tl c mqr Finset.univ fullShare qr
    ∗ tl c mk Finset.univ fullShare k ∗ tl c mv Finset.univ fullShare v)

/-- One head of one batch, written over its queries. -/
theorem tilePart_run (q : Memref sig .tc .vmem S1024x1024 .bf16) (hq : q.IsWhole) (mqr : Memref sig .tc .vmem S1024x256 .bf16)
    (mkr : Memref sig .tc .vmem S1024x32 .bf16) (mk mv : Memref sig .tc .vmem S1024x1024 .bf16)
    (kr : S1024x32.Idx → Elt F .bf16) (qr : S1024x256.Idx → Elt F .bf16) (qv k v : S1024x1024.Idx → Elt F .bf16)
    (h : Fin 8) (b : Fin 2) :
    iprop((atIns c mkr mqr mk mv kr qr k v ∗ tl c q (tileR h b).set fullShare qv)
      ∗ ((atIns c mkr mqr mk mv kr qr k v ∗ tl c q (tileR h b).set fullShare (attV kr qr qv k v)) -∗ K ⟨⟩))
      ⊢ WP c (tilePart q hq mqr mkr mk mv h b) K := by
  have hA : ∀ y, attnT h (batV kr b) (batV qr b) (tileV qv h b) (tileV k h b) (tileV v h b) y
      = attV kr qr qv k v ((tileR h b).emb y) := fun y => Eq.trans (by rfl) (tilesT.glue_emb _ (h, b) y).symm
  unfold tilePart atIns
  iintro ⟨⟨⟨Hkr, Hqr, Hk', Hv⟩, Hq⟩, Hk⟩
  iapply (wp_ld (Finset.subset_univ _))
  isplitl [Hkr]; · iexact Hkr
  iintro Hkr
  iapply (wp_ld (Finset.subset_univ _))
  isplitl [Hqr]; · iexact Hqr
  iintro Hqr
  iapply (wp_ld (Finset.Subset.refl _))
  isplitl [Hq]; · iexact Hq
  iintro Hq
  iapply (wp_ld (Finset.subset_univ _))
  isplitl [Hk']; · iexact Hk'
  iintro Hk'
  iapply (wp_ld (Finset.subset_univ _))
  isplitl [Hv]; · iexact Hv
  iintro Hv
  iapply (wp_st_end hA)
  isplitl [Hq]; · iapply tl_any; iexact Hq
  iintro Hq
  iapply Hk
  isplitr [Hq]
  · isplitl [Hkr]; · iexact Hkr
    isplitl [Hqr]; · iexact Hqr
    isplitl [Hk']; · iexact Hk'
    iexact Hv
  iexact Hq

/-- One output block from this device's heads. -/
theorem out1Part_run (mq : Memref sig .tc .vmem S1024x1024 .bf16) (mw : Memref sig .tc .vmem S1024x2048 .bf16)
    (out : Memref sig .tc .vmem S2x512x2048 .f32) (sh : PosShare TreeShare) (o : S1024x1024.Idx → Elt F .bf16)
    (w : Vec F S1024x2048 .bf16) (b k : Fin 2) :
    iprop((tl c mq Finset.univ sh o ∗ tl c mw Finset.univ fullShare w ∗ tlAny c out (outR b k).set)
      ∗ ((tl c mq Finset.univ sh o ∗ tl c mw Finset.univ fullShare w ∗ tl c out (outR b k).set fullShare (out1V o w)) -∗ K ⟨⟩))
      ⊢ WP c (out1Part mq mw out b k) K := by
  have hO : ∀ y, out1T (rowV o (row4 b k)) (allV w) y = out1V o w ((outR b k).emb y) :=
    fun y => Eq.trans (by rfl) (outT.glue_emb _ (b, k) y).symm
  unfold out1Part
  iintro ⟨⟨Hq, Hw, H⟩, Hk⟩
  iapply (wp_ld (Finset.subset_univ _))
  isplitl [Hq]; · iexact Hq
  iintro Hq
  iapply (wp_ld (Finset.subset_univ _))
  isplitl [Hw]; · iexact Hw
  iintro Hw
  iapply (wp_st_end hO)
  isplitl [H]; · iexact H
  iintro H
  iapply Hk
  isplitl [Hq]; · iexact Hq
  isplitl [Hw]; · iexact Hw
  iexact H

/-- One output block with the neighbour's heads added. -/
theorem out2Part_run (mo : Memref sig .tc .vmem S1024x1024 .bf16) (mw : Memref sig .tc .vmem S1024x2048 .bf16)
    (out : Memref sig .tc .vmem S2x512x2048 .f32) (old : S2x512x2048.Idx → Elt F .f32) (o : S1024x1024.Idx → Elt F .bf16)
    (w : Vec F S1024x2048 .bf16) (b k : Fin 2) :
    iprop((tl c mo Finset.univ fullShare o ∗ tl c mw Finset.univ fullShare w ∗ tl c out (outR b k).set fullShare old)
      ∗ ((tl c mo Finset.univ fullShare o ∗ tl c mw Finset.univ fullShare w
        ∗ tl c out (outR b k).set fullShare (out2V old o w)) -∗ K ⟨⟩))
      ⊢ WP c (out2Part mo mw out b k) K := by
  have hO : ∀ y, out2T (outBlk old b k) (rowV o (row4 b k)) (allV w) y = out2V old o w ((outR b k).emb y) :=
    fun y => Eq.trans (by rfl) (outT.glue_emb _ (b, k) y).symm
  unfold out2Part
  iintro ⟨⟨Hq, Hw, H⟩, Hk⟩
  iapply (wp_ld (Finset.Subset.refl _))
  isplitl [H]; · iexact H
  iintro H
  iapply (wp_ld (Finset.subset_univ _))
  isplitl [Hq]; · iexact Hq
  iintro Hq
  iapply (wp_ld (Finset.subset_univ _))
  isplitl [Hw]; · iexact Hw
  iintro Hw
  iapply (wp_st_end hO)
  isplitl [H]; · iapply tl_any; iexact H
  iintro H
  iapply Hk
  isplitl [Hq]; · iexact Hq
  isplitl [Hw]; · iexact Hw
  iexact H

end

end Cert.KernelIdeal.Hand
-- ==== Proof.Protocol.lean ====
/- The exchange. Device `c` talks to `xn c` (the other half of the latent) and to `yn c` (the other heads).

   * barrier: `c` signals one unit to `xn c` and one to `yn c` and waits for two. The unit from `xn c` brings
     its three landing buffers, the unit from `yn c` its landing buffer for the heads, by column windows, each
     with the word that the matching receive cells are open.
   * `send i`, `recv i` (i < 3): `c` copies its latent and its two up-projections into `xn c`. The receive cell
     hands over the landing buffer at `xn c`'s contents, the send cell hands the source back.
   * `osend h`, `orecv h` (h < 8): `c` copies the columns of head `h` of its attention output into `yn c`,
     lending half a share of them.

   Every cell has one round. Levels: send cells 0, barrier 1, recv 2, orecv 3. -/
module

public import proofs.«01_k».proof.Proof.Runs

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]

/-! ### Buffers -/

abbrev mX : Memref sig .tc .vmem S2x512x2048 .bf16 := Memref.whole cc0_stg0_0
abbrev mWdkv : Memref sig .tc .vmem S2048x128 .bf16 := Memref.whole cc0_stg1_0
abbrev mWuk : Memref sig .tc .vmem S128x1024 .bf16 := Memref.whole cc0_stg2_0
abbrev mWuv : Memref sig .tc .vmem S128x1024 .bf16 := Memref.whole cc0_stg3_0
abbrev mWq : Memref sig .tc .vmem S2048x1024 .bf16 := Memref.whole cc0_stg4_0
abbrev mWqr : Memref sig .tc .vmem S2048x256 .bf16 := Memref.whole cc0_stg5_0
abbrev mWkr : Memref sig .tc .vmem S2048x32 .bf16 := Memref.whole cc0_stg6_0
abbrev mWoM : Memref sig .tc .vmem S1024x2048 .bf16 := Memref.whole cc0_stg7_0
abbrev mWoO : Memref sig .tc .vmem S1024x2048 .bf16 := Memref.whole cc0_stg8_0
abbrev mOut : Memref sig .tc .vmem S2x512x2048 .f32 := Memref.whole cc0_stg9_0
abbrev mC : Memref sig .tc .vmem S1024x128 .bf16 := Memref.whole cc0_scratch0
abbrev mCn : Memref sig .tc .vmem S1024x128 .bf16 := Memref.whole cc0_scratch1
abbrev mWukn : Memref sig .tc .vmem S128x1024 .bf16 := Memref.whole cc0_scratch2
abbrev mWuvn : Memref sig .tc .vmem S128x1024 .bf16 := Memref.whole cc0_scratch3
abbrev mQ : Memref sig .tc .vmem S1024x1024 .bf16 := Memref.whole cc0_scratch4
abbrev mQr : Memref sig .tc .vmem S1024x256 .bf16 := Memref.whole cc0_scratch5
abbrev mKr : Memref sig .tc .vmem S1024x32 .bf16 := Memref.whole cc0_scratch6
abbrev mK : Memref sig .tc .vmem S1024x1024 .bf16 := Memref.whole cc0_scratch7
abbrev mV : Memref sig .tc .vmem S1024x1024 .bf16 := Memref.whole cc0_scratch8
abbrev mO : Memref sig .tc .vmem S1024x1024 .bf16 := Memref.whole cc0_scratch9

/-! ### Cells -/

/-- The kernel's own DMA semaphores. -/
def enc (k : Fin 22) : DmaSem sig := ⟨10 + k.val, by have := k.isLt; show 10 + k.val < 32; omega⟩
def dec (s : DmaSem sig) : Option (Fin 22) :=
  if h : 10 ≤ s.val then some ⟨s.val - 10, by have h32 : s.val < 32 := s.isLt; omega⟩ else none
theorem dec_enc (k : Fin 22) : dec (enc k) = some k := by revert k; decide
theorem enc_inj : Function.Injective enc := fun a b h => Option.some.inj (by rw [← dec_enc a, h, dec_enc])

abbrev sendK (i : Fin 3) : Fin 22 := ⟨i.val, by omega⟩
abbrev recvK (i : Fin 3) : Fin 22 := ⟨3 + i.val, by omega⟩
abbrev osendK (h : Fin 8) : Fin 22 := ⟨6 + h.val, by omega⟩
abbrev orecvK (h : Fin 8) : Fin 22 := ⟨14 + h.val, by omega⟩

theorem sem3_val (base : ℕ) (hb : base + S3.numel ≤ 32) (i : Fin 3) :
    (sem3 (SemArray.consecutive base S3 hb : DmaSems sig S3) i).val = base + i.val := by
  show base + (S3.rowMajor _).val = _
  rw [Shape.rowMajor_val_one]
  congr 1
  show i.val + 1 * _ = _
  have : ∀ j : S1.Idx, (j 0).val = 0 := fun j => by have h : (j 0).val < 1 := (j 0).isLt; omega
  rw [this, Nat.mul_zero, Nat.add_zero]
theorem sem8_val (base : ℕ) (hb : base + S8.numel ≤ 32) (h : Fin 8) :
    (sem8 (SemArray.consecutive base S8 hb : DmaSems sig S8) h).val = base + h.val := by
  show base + (S8.rowMajor _).val = _
  rw [Shape.rowMajor_val_one]
  congr 1
  show h.val + 1 * _ = _
  have : ∀ j : S1.Idx, (j 0).val = 0 := fun j => by have h : (j 0).val < 1 := (j 0).isLt; omega
  rw [this, Nat.mul_zero, Nat.add_zero]

theorem sem_send (i : Fin 3) : sem3 cc0_scratch10 i = enc (sendK i) := Fin.ext (sem3_val 10 _ i)
theorem sem_recv (i : Fin 3) : sem3 cc0_scratch11 i = enc (recvK i) :=
  Fin.ext ((sem3_val 13 _ i).trans (by show 13 + i.val = 10 + (3 + i.val); omega))
theorem sem_osend (h : Fin 8) : sem8 cc0_scratch12 h = enc (osendK h) :=
  Fin.ext ((sem8_val 16 _ h).trans (by show 16 + h.val = 10 + (6 + h.val); omega))
theorem sem_orecv (h : Fin 8) : sem8 cc0_scratch13 h = enc (orecvK h) :=
  Fin.ext ((sem8_val 24 _ h).trans (by show 24 + h.val = 10 + (14 + h.val); omega))

abbrev barSem : Sem sig := barS.sem
abbrev bar (c : Dev nD) : GSem nD τ sig := ((c : Thread nD τ), .reg barSem)
abbrev cell (c : Dev nD) (k : Fin 22) : GSem nD τ sig := ((c : Thread nD τ), .dma (enc k))

abbrev NC : ℕ := mCn.view.dmaCredit
abbrev NW : ℕ := mWukn.view.dmaCredit
abbrev NH : ℕ := (headM mO 0).view.dmaCredit
/-- What one copy pays at cell `k`. -/
def amt (k : Fin 22) : ℕ := if k.val < 6 then (if k.val % 3 = 0 then NC else NW) else NH
theorem amt_pos (k : Fin 22) : 0 < amt k := by
  unfold amt
  split
  · split
    · exact View.dmaCredit_pos _ (by decide)
    · exact View.dmaCredit_pos _ (by decide)
  · exact View.dmaCredit_pos _ (by decide)

/-! ### Schedule -/

variable (ins : Dev nD → In F)

/-- From `xn c`: its landing buffers, and its receive cells open. -/
def barXPay (c : Dev nD) : sProp (MM F) :=
  iprop(tlAny (xn c) mCn Finset.univ ∗ tlAny (xn c) mWukn Finset.univ ∗ tlAny (xn c) mWuvn Finset.univ
    ∗ reached ER (cell (xn c) (recvK 0)) 0 ∗ reached ER (cell (xn c) (recvK 1)) 0 ∗ reached ER (cell (xn c) (recvK 2)) 0)

/-- From `yn c`: its landing windows, and its receive cells open. -/
def barYPay (c : Dev nD) : sProp (MM F) :=
  bigSep Finset.univ fun h : Fin 8 => iprop(tlAny (yn c) mO (headR h).set ∗ reached ER (cell (yn c) (orecvK h)) 0)

/-- What cell `k` of device `c` hands over. -/
def pay (c : Dev nD) (k : Fin 22) : sProp (MM F) :=
  if k.val = 0 then tl c mC Finset.univ fullShare (cV (ins c))
  else if k.val = 1 then tl c mWuk Finset.univ fullShare (ins c).wuk
  else if k.val = 2 then tl c mWuv Finset.univ fullShare (ins c).wuv
  else if k.val = 3 then tl c mCn Finset.univ fullShare (cV (ins (xn c)))
  else if k.val = 4 then tl c mWukn Finset.univ fullShare (ins (xn c)).wuk
  else if k.val = 5 then tl c mWuvn Finset.univ fullShare (ins (xn c)).wuv
  else if k.val < 14 then tl c mQ (headR ⟨(k.val - 6) % 8, Nat.mod_lt _ (by decide)⟩).set fullShare.left (aD ins c)
  else tl c mO (headR ⟨(k.val - 14) % 8, Nat.mod_lt _ (by decide)⟩).set fullShare (aD ins (yn c))

theorem pay_osend (c : Dev nD) (h : Fin 8) : pay ins c (osendK h) = tl c mQ (headR h).set fullShare.left (aD ins c) := by
  fin_cases h <;> rfl
theorem pay_orecv (c : Dev nD) (h : Fin 8) : pay ins c (orecvK h) = tl c mO (headR h).set fullShare (aD ins (yn c)) := by
  fin_cases h <;> rfl

/-- One round on every cell. -/
def rd : Rounds.Schedule (GSem nD τ sig) Bool (MM F) where
  duties g r := if r = 0 ∧ g.1.2 = .tc then
    (match g.2 with
      | .reg _ => {false, true}
      | .dma s => match dec s with | some _ => {false} | none => ∅) else ∅
  unitless _ := False
  amount g _ _ := match g.2 with
    | .reg _ => 1
    | .dma s => match dec s with | some k => amt k | none => 1
  payload g _ d := match g.2 with
    | .reg _ => if d then barYPay g.1.1 else barXPay g.1.1
    | .dma s => match dec s with | some k => pay ins g.1.1 k | none => iprop(emp)
  amount_pos g _ _ _ := by
    rcases g with ⟨t, s | s⟩
    · exact Nat.one_pos
    · dsimp only
      split
      · exact amt_pos _
      · exact Nat.one_pos

instance rd_storable (g : GSem nD τ sig) (r : ℕ) (d : Bool) :
    BI.Storable (upEmb : UEmb _ (MM F)) ((rd ins).payload g r d) := by
  rcases g with ⟨t, s | s⟩
  · show BI.Storable upEmb (if d then barYPay t.1 else barXPay t.1)
    unfold barYPay barXPay
    split <;> infer_instance
  · show BI.Storable upEmb (match dec s with | some k => pay ins t.1 k | none => iprop(emp))
    split
    · unfold pay
      (repeat' split) <;> infer_instance
    · infer_instance

section Sched

variable (c : Dev nD) (k : Fin 22)

theorem duties_bar : (rd ins).duties (bar c) 0 = {false, true} := by dsimp only [rd]; exact if_pos ⟨rfl, rfl⟩
theorem duties_cell : (rd ins).duties (cell c k) 0 = {false} := by
  dsimp only [rd]; rw [if_pos ⟨rfl, rfl⟩, dec_enc]
theorem duties_later (g : GSem nD τ sig) : ∀ r, 1 ≤ r → (rd ins).duties g r = ∅ :=
  fun r hr => by dsimp only [rd]; rw [if_neg (fun h => by omega)]
theorem amount_bar (d : Bool) : (rd ins).amount (bar c) 0 d = 1 := rfl
theorem amount_cell (d : Bool) : (rd ins).amount (cell c k) 0 d = amt k := by dsimp only [rd]; rw [dec_enc]
theorem expect_bar : (rd ins).expect (bar c) 0 = 2 := by
  unfold Schedule.expect Schedule.amountOf
  rw [duties_bar, Finset.sum_pair (by decide), amount_bar, amount_bar]
theorem expect_cell : (rd ins).expect (cell c k) 0 = amt k := by
  unfold Schedule.expect Schedule.amountOf; rw [duties_cell, Finset.sum_singleton, amount_cell]
theorem payload_barX : (rd ins).payload (bar c) 0 false = barXPay c := rfl
theorem payload_barY : (rd ins).payload (bar c) 0 true = barYPay c := rfl
theorem payload_cell (d : Bool) : (rd ins).payload (cell c k) 0 d = pay ins c k := by dsimp only [rd]; rw [dec_enc]
theorem rest_bar : bigSep ((rd ins).duties (bar c) 0 \ ∅) (fun d => (rd ins).payload (bar c) 0 d)
    = iprop(barXPay (F := F) c ∗ barYPay c) := by
  rw [Finset.sdiff_empty, duties_bar, bigSep_insert (by decide), bigSep_singleton, payload_barX, payload_barY]
  rfl
theorem rest_cell : bigSep ((rd ins).duties (cell c k) 0 \ ∅) (fun d => (rd ins).payload (cell c k) 0 d) = pay ins c k := by
  rw [Finset.sdiff_empty, duties_cell, bigSep_singleton, payload_cell]

end Sched

/-! ### What is owed, and levels -/

/-- The head copies still owed to `yn c`. -/
def oweH (c : Dev nD) : List (Fin 8) → CellTallies nD τ sig Unit
  | [] => 0
  | h :: l => oweH c l + tallyAt (cell (yn c) (orecvK h)) () (amt (orecvK h))

/-- With the copies still owed to `xn c`. -/
def oweR (c : Dev nD) : List (Fin 3) → CellTallies nD τ sig Unit
  | [] => oweH c [0, 1, 2, 3, 4, 5, 6, 7]
  | i :: l => oweR c l + tallyAt (cell (xn c) (recvK i)) () (amt (recvK i))

/-- What device `c` owes at launch. -/
def O₀ (c : Dev nD) : CellTallies nD τ sig Unit :=
  oweR c [0, 1, 2] + tallyAt (bar (yn c)) () 1 + tallyAt (bar (xn c)) () 1

def L (g : GSem nD τ sig) : Finset Unit := if g.1.2 = .tc then {()} else ∅
def lv (g : GSem nD τ sig) (_ : Unit) : ℕ :=
  match g.2 with
  | .reg _ => 1
  | .dma s => if s.val < 13 then 0 else if s.val < 16 then 2 else if s.val < 24 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 3) : lv (cell c (recvK i)) () = 2 := by fin_cases i <;> rfl
theorem lv_orecv (c : Dev nD) (h : Fin 8) : lv (cell c (orecvK h)) () = 3 := by fin_cases h <;> rfl
theorem lv_send (c : Dev nD) (i : Fin 3) : lv (cell c (sendK i)) () = 0 := by fin_cases i <;> rfl
theorem lv_osend (c : Dev nD) (h : Fin 8) : lv (cell c (osendK h)) () = 0 := by fin_cases h <;> rfl

/-- Everything `O` owes lies above level `b`. -/
def Above (b : ℕ) (O : CellTallies nD τ sig Unit) : Prop := ∀ g u, 0 < O g u → g.1.2 = .tc ∧ b < lv g u

theorem Above.zero (b : ℕ) : Above b 0 := fun _ _ h => absurd h (Nat.lt_irrefl 0)
theorem Above.add {b : ℕ} {O O' : CellTallies nD τ sig Unit} (h : Above b O) (h' : Above b O') : Above b (O + O') := by
  intro g u hg
  have hs : 0 < O g u + O' g u := hg
  by_cases hO : 0 < O g u
  · exact h g u hO
  · exact h' g u (by omega)
theorem Above.tally {b : ℕ} {c : Dev nD} {sm : SemLoc sig} {n : ℕ} (h : b < lv ((c : Thread nD τ), sm) ()) :
    Above b (tallyAt ((c : Thread nD τ), sm) () n) := by
  intro g u hg
  rw [tallyAt_apply] at hg
  by_cases hh : g = ((c : Thread nD τ), sm) ∧ u = ()
  · rw [hh.1]; exact ⟨rfl, h⟩
  · rw [if_neg hh] at hg; exact absurd hg (Nat.lt_irrefl 0)

theorem above_oweH (c : Dev nD) (l : List (Fin 8)) : Above 2 (oweH c l) := by
  induction l with
  | nil => exact Above.zero 2
  | cons h l ih => exact ih.add (Above.tally (by rw [lv_orecv]; decide))
theorem Above.mono {b b' : ℕ} {O : CellTallies nD τ sig Unit} (h : Above b O) (hb : b' ≤ b) : Above b' O :=
  fun g u hg => ⟨(h g u hg).1, lt_of_le_of_lt hb (h g u hg).2⟩
theorem above_oweR (c : Dev nD) (l : List (Fin 3)) : Above 1 (oweR c l) := by
  induction l with
  | nil => exact (above_oweH c _).mono (by decide)
  | cons i l ih => exact ih.add (Above.tally (by rw [lv_recv]; decide))
theorem above_O₀ (c : Dev nD) : Above 0 (O₀ c) :=
  (((above_oweR c _).mono (by decide)).add (Above.tally (Nat.lt_succ_self 0))).add (Above.tally (Nat.lt_succ_self 0))

theorem mayWait {c : Dev nD} {sm : SemLoc sig} {b : ℕ} {O : CellTallies nD τ sig Unit} (hs : lv ((c : Thread nD τ), sm) () ≤ b)
    (hO : Above b O) : (levAts L lv : sProp (MM F)) ⊢ MayWait (c : Thread nD τ) sm () O :=
  MayOwe.of_cut (L := L) (lev := lv) b
    (fun p hp => by rw [Finset.mem_singleton.mp hp, L_tc]; exact Finset.mem_singleton_self _)
    (fun g u hg => by
      obtain ⟨h1, -⟩ := hO g u hg
      unfold L; rw [if_pos h1]; exact Finset.mem_singleton_self _)
    (fun p hp => by rw [Finset.mem_singleton.mp hp]; exact hs)
    (fun g u hg => (hO g u hg).2)

end Cert.KernelIdeal.Hand
-- ==== Proof.Talk.lean ====
/- The three operations of the exchange, over parts of buffers held at named values. -/
module

public import proofs.«01_k».proof.Proof.Protocol

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]
variable (ins : Dev nD → In F) (κ : GSem nD τ sig → ℕ)

/-- Every cell of the protocol. -/
def gc : Dev nD × Option (Fin 22) → GSem nD τ sig
  | (c, none) => bar c
  | (c, some k) => cell c k

/-- What every device may consult: the cells' invariants and the levels. -/
def ctx : sProp (MM F) :=
  iprop((bigSep Finset.univ fun p : Dev nD × Option (Fin 22) => cellInv ER (rd ins) (κ (gc p)) (gc p)) ∗ levAts L lv)

instance ctx_persistent : BI.Persistent (ctx ins κ) := by unfold ctx; infer_instance

theorem inv_at (p : Dev nD × Option (Fin 22)) :
    (bigSep Finset.univ fun p : Dev nD × Option (Fin 22) => (cellInv ER (rd ins) (κ (gc p)) (gc p) : sProp (MM F)))
      ⊢ cellInv ER (rd ins) (κ (gc p)) (gc p) := bigSep_elim (Finset.mem_univ p)

theorem ctx_bar (c : Dev nD) : ctx ins κ ⊢ cellInv ER (rd ins) (κ (bar c)) (bar c) := by
  unfold ctx
  iintro ⟨H, -⟩
  iapply (inv_at ins κ (c, none)) $$ H

theorem ctx_cell (c : Dev nD) (k : Fin 22) : ctx ins κ ⊢ cellInv ER (rd ins) (κ (cell c k)) (cell c k) := by
  unfold ctx
  iintro ⟨H, -⟩
  iapply (inv_at ins κ (c, some k)) $$ H

theorem ctx_lev : ctx ins κ ⊢ levAts L lv := by
  unfold ctx
  iintro ⟨-, H⟩
  iexact H

/-- Device `c` owes `O`. -/
def ow (c : Dev nD) (O : CellTallies nD τ sig Unit) : sProp (MM F) := iprop(∃ W, owes (c : Thread nD τ) O W)

variable {ins κ}

/-- Signal one unit to a barrier cell. -/
theorem signal_run {α : Type} {c d : Dev nD} {k : PUnit → Pg F α} {Q : α → sProp (MM F)} (b : Bool)
    (O : CellTallies nD τ sig Unit) :
    iprop((ctx ins κ ∗ ow c (O + tallyAt (bar d) () 1) ∗ dutyTok ER (bar d) 0 b ∗ (rd ins).payload (bar d) 0 b
        ∗ reached ER (bar d) 0) ∗ (ow c O -∗ WP c (k ⟨⟩) Q))
      ⊢ WP c (.op (.semSignal (d : Thread nD τ) barSem 1) k) Q := by
  unfold ow
  iintro ⟨⟨#Hc, ⟨%W, HO⟩, Ht, Hp, Hr⟩, Hk⟩
  have key := Rounds.wp_signal (defs := defs₀ (F := F)) (Γ := .empty) (Name := ℕ) (U := UU) (Lvl := ℕ) (Ix := Unit)
    𝒱₀ ER (rd ins) (c : Thread nD τ) none (dst := (d : Thread nD τ)) (sem := barSem) (r := 0) (d := b) (κ := κ (bar d))
    (k := k) (Q := Q) (Es := Set.univ)
    (by rw [duties_bar]; cases b <;> decide) (amount_bar ins d b) () O rfl (W := W)
  iapply key $$ [HO Ht Hp Hr]
  · isplitr; · iapply (ctx_bar ins κ d); iexact Hc
    isplitl [HO]; · iexact HO
    isplitl [Ht]; · iexact Ht
    isplitl [Hp]; · iexact Hp
    iexact Hr
  iintro HO
  iapply Hk
  iexists W
  iexact HO

/-- Wait for both units of the own barrier cell. -/
theorem barrier_run {α : Type} {c : Dev nD} {k : PUnit → Pg F α} {Q : α → sProp (MM F)} {O : CellTallies nD τ sig Unit}
    (hO : Above 1 O) :
    iprop((ctx ins κ ∗ cred (tallyAt (bar c) () 2) ∗ ow c O ∗ atPos ER (bar c) 0 ∅ 0)
        ∗ ((ow c O ∗ atPos ER (bar c) 1 ∅ 0 ∗ barXPay c ∗ barYPay c) -∗ WP c (k ⟨⟩) Q))
      ⊢ WP c (.op (.semWait barSem 2) k) Q := by
  unfold ow
  iintro ⟨⟨#Hc, Hcr, ⟨%W, HO⟩, Ha⟩, Hk⟩
  have key := Rounds.wp_wait_rest_token (defs := defs₀ (F := F)) (Γ := .empty) (Name := ℕ) (U := UU) (Lvl := ℕ) (Ix := Unit)
    𝒱₀ ER (rd ins) (c : Thread nD τ) none (κ := κ (bar c)) (k := k) (Q := Q)
    (wpE_semWait_eq 𝒱₀ (c : Thread nD τ) none Set.univ) (Set.mem_univ _) () (O := O) (W := W) (R := 0) (m := 0) (T := ∅)
    ((Nat.zero_add 2).trans (expect_bar ins c).symm)
  iapply key $$ [Hcr HO Ha]
  · isplitr; · iapply (ctx_bar ins κ c); iexact Hc
    isplitl [Hcr]; · iexact Hcr
    isplitl [HO]; · iexact HO
    isplitr
    · iapply (mayWait (F := F) (c := c) (sm := .reg barSem) (b := 1) (Nat.le_refl 1) hO)
      iapply (ctx_lev ins κ); iexact Hc
    iexact Ha
  iintro ⟨HO, Ha, -, Hp⟩
  iapply Hk
  isplitl [HO]; · iexists _; iexact HO
  isplitl [Ha]; · iexact Ha
  iapply (Entails.of_eq (rest_bar ins c)) $$ Hp

/-- Wait for the one copy of an own cell. -/
theorem wait_run {α : Type} {c : Dev nD} {kx : PUnit → Pg F α} {Q : α → sProp (MM F)} {O : CellTallies nD τ sig Unit}
    {s s' : Shape} {e e' : EltTy} {a : Memref sig .tc .vmem s e} {b : Memref sig .tc .vmem s' e'} {ha : a.view.WordExact}
    {hb : b.view.WordExact} {sm : DmaSem sig} (k : Fin 22) (hs : sm = enc k) (hN : b.view.dmaCredit = amt k) (l : ℕ)
    (hl : lv (cell c k) () ≤ l) (hO : Above l O) :
    iprop((ctx ins κ ∗ cred (tallyAt (cell c k) () (amt k)) ∗ ow c O ∗ atPos ER (cell c k) 0 ∅ 0)
        ∗ ((ow c O ∗ atPos ER (cell c k) 1 ∅ 0 ∗ pay ins c k) -∗ WP c (kx ⟨⟩) Q))
      ⊢ WP c (.op (.waitDma2 sm a b ha hb) kx) Q := by
  subst hs
  unfold ow
  iintro ⟨⟨#Hc, Hcr, ⟨%W, HO⟩, Ha⟩, Hk⟩
  have key := Rounds.wp_wait_rest_token (defs := defs₀ (F := F)) (Γ := .empty) (Name := ℕ) (U := UU) (Lvl := ℕ) (Ix := Unit)
    𝒱₀ ER (rd ins) (c : Thread nD τ) none (κ := κ (cell c k)) (k := kx) (Q := Q)
    (wpE_waitDma2_eq (src := a) (dst := b) (hsrc := ha) (hdst := hb) (sem := enc k) 𝒱₀ (c : Thread nD τ) none Set.univ)
    (Set.mem_univ _) () (O := O) (W := W) (R := 0) (m := 0) (T := ∅)
    ((Nat.zero_add _).trans (hN.trans (expect_cell ins c k).symm))
  rw [hN] at key
  iapply key $$ [Hcr HO Ha]
  · isplitr; · iapply (ctx_cell ins κ c k); iexact Hc
    isplitl [Hcr]; · iexact Hcr
    isplitl [HO]; · iexact HO
    isplitr
    · iapply (mayWait (F := F) (c := c) (sm := .dma (enc k)) (b := l) hl hO)
      iapply (ctx_lev ins κ); iexact Hc
    iexact Ha
  iintro ⟨HO, Ha, -, Hp⟩
  iapply Hk
  isplitl [HO]; · iexists _; iexact HO
  isplitl [Ha]; · iexact Ha
  iapply (Entails.of_eq (rest_cell ins c k)) $$ Hp

/-- Copy a part of a buffer to device `d`, paying the own cell `k` with the source and `d`'s cell `k'` with what lands. -/
theorem send_run {α : Type} {c d : Dev nD} {kx : PUnit → Pg F α} {Q : α → sProp (MM F)} (O : CellTallies nD τ sig Unit)
    {s : Shape} {e : EltTy} {a b : Memref sig .tc .vmem s e} {ha : a.view.WordExact} {hb : b.view.WordExact}
    {sS sR : DmaSem sig} {hsc : b.view.ref.isScScratch = false}
    {hty : DmaTarget.Typed .vmem (.dma sR) (.remote (d : Thread nD τ) b (.dma sS) hsc)}
    (k k' : Fin 22) (hS : sS = enc k) (hR : sR = enc k') (hN : b.view.amount (.dma (enc k')) = amt k') (hk : amt k = amt k')
    {q : PosShare TreeShare} {v : s.Idx → Elt F e}
    (h₁ : tl c a Finset.univ q v ⊢ pay ins c k) (h₂ : tl d b Finset.univ fullShare v ⊢ pay ins d k') :
    iprop((ctx ins κ ∗ tl c a Finset.univ q v ∗ tlAny d b Finset.univ ∗ ow c (O + tallyAt (cell d k') () (amt k'))
        ∗ (dutyTok ER (cell c k) 0 false ∗ reached ER (cell c k) 0) ∗ dutyTok ER (cell d k') 0 false ∗ reached ER (cell d k') 0)
        ∗ ((cred (tallyAt (cell c k) () (amt k)) ∗ ow c O) -∗ WP c (kx ⟨⟩) Q))
      ⊢ WP c (.op (.enqueueDma a (.remote (d : Thread nD τ) b (.dma sS) hsc) (.dma sR) ha hb hty) kx) Q := by
  subst hS
  subst hR
  unfold ow tlAny
  rw [hk]
  unfold tl
  iintro ⟨⟨#Hc, ⟨%fs, %hfs, Hs⟩, ⟨%vd, %fd, -, Hd⟩, ⟨%W, HO⟩, ⟨Ht, Hr⟩, Ht', Hr'⟩, Hk⟩
  have key := Rounds.wp_send_pointsTo (defs := defs₀ (F := F)) (Γ := .empty) (Name := ℕ) (U := UU) (Lvl := ℕ) (Ix := Unit)
    𝒱₀ ER (rd ins) (c : Thread nD τ) none (c' := (d : Thread nD τ)) (src := a) (dst := b) (hsc := hsc)
    (sS := .dma (enc k)) (sem := .dma (enc k')) (hsrc := ha) (hdst := hb) (hsem := hty) (q := q) (fs := fs) (fd := fd)
    (κ₁ := κ (cell c k)) (κ₂ := κ (cell d k')) (k := kx) (Q := Q) (Es := Set.univ)
    (r₁ := 0) (r₂ := 0) (d₁ := false) (d₂ := false)
    (by rw [duties_cell]; exact Finset.mem_singleton_self _) (by rw [duties_cell]; exact Finset.mem_singleton_self _)
    () () (amt k') hN ((amount_cell ins c k false).trans hk) (amount_cell ins d k' false) O rfl (W := W)
    (by rw [payload_cell]; exact (tl_intro hfs).trans h₁)
    (by
      rw [payload_cell]
      exact (tl_intro fun x hx => (congrFun (View.read_write_univ _ _) x).trans (hfs x hx)).trans h₂)
  iapply key $$ [Hs Hd HO Ht Hr Ht' Hr']
  · isplitr; · iapply (ctx_cell ins κ c k); iexact Hc
    isplitr; · iapply (ctx_cell ins κ d k'); iexact Hc
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hcr, HO⟩
  iapply Hk
  isplitl [Hcr]; · iexact Hcr
  iexists W
  iexact HO

/-- A cell whose round is over gives its counter back at zero. -/
theorem close_cell (g : GSem nD τ sig) :
    iprop(cellInv ER (rd ins) (κ g) g ∗ atPos ER g (0 + 1) ∅ 0) ⊢ (|={Set.univ}=> semVal g 0 : sProp (MM F)) :=
  Rounds.cell_close ER (rd ins) (Set.mem_univ (κ g)) id (duties_later ins g)

end Cert.KernelIdeal.Hand
-- ==== Proof.Phases.lean ====
/- The phases of the body, each from what it takes to what it gives. -/
module

public import proofs.«01_k».proof.Proof.Talk

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]

/-! ### Whole buffers and their tiles -/

theorem tlAny_tiles {T : Type} [DecidableEq T] [Fintype T] [Nonempty T] {s : Shape} {e : EltTy} {c : Dev nD}
    {m : Memref sig .tc .vmem s e} (G : Tiling T s) :
    (tlAny c m Finset.univ : sProp (MM F)) ⊢ bigSep Finset.univ (fun t => tlAny c m (G.K t).set) := by
  have h : ∀ v : s.Idx → Elt F e, (tl c m Finset.univ fullShare v : sProp (MM F)) ⊢ bigSep Finset.univ (fun t => tlAny c m (G.K t).set) :=
    fun v => (Entails.of_eq (tl_tiles G)).trans (bigSep_mono fun t _ => tl_any)
  unfold tlAny at h ⊢
  iintro ⟨%v, H⟩
  iapply (h v) $$ H

theorem tlAny_rows {n : ℕ} {e : EltTy} {c : Dev nD} {m : Memref sig .tc .vmem ⟨2, ![1024, n]⟩ e} :
    (tlAny c m Finset.univ : sProp (MM F)) ⊢ iprop(tlAny c m (rowR n (row4 0 0)).set ∗ tlAny c m (rowR n (row4 0 1)).set
      ∗ tlAny c m (rowR n (row4 1 0)).set ∗ tlAny c m (rowR n (row4 1 1)).set) :=
  (tlAny_tiles (rowsT n)).trans (Entails.of_eq (bigSep4 _))

theorem tl_rows {n : ℕ} {e : EltTy} {c : Dev nD} {m : Memref sig .tc .vmem ⟨2, ![1024, n]⟩ e} {q : PosShare TreeShare}
    {v : (⟨2, ![1024, n]⟩ : Shape).Idx → Elt F e} :
    (tl c m Finset.univ q v : sProp (MM F)) = iprop(tl c m (rowR n (row4 0 0)).set q v ∗ tl c m (rowR n (row4 0 1)).set q v
      ∗ tl c m (rowR n (row4 1 0)).set q v ∗ tl c m (rowR n (row4 1 1)).set q v) :=
  (tl_tiles (rowsT n)).trans (bigSep4 _)

theorem tl_heads {c : Dev nD} {m : Memref sig .tc .vmem S1024x1024 .bf16} {q : PosShare TreeShare}
    {v : S1024x1024.Idx → Elt F .bf16} :
    (tl c m Finset.univ q v : sProp (MM F)) = bigSep Finset.univ fun h => tl c m (headR h).set q v := tl_tiles headsT

theorem tlAny_outs {c : Dev nD} {m : Memref sig .tc .vmem S2x512x2048 .f32} :
    (tlAny c m Finset.univ : sProp (MM F)) ⊢ iprop(tlAny c m (outR 0 0).set ∗ tlAny c m (outR 0 1).set
      ∗ tlAny c m (outR 1 0).set ∗ tlAny c m (outR 1 1).set) :=
  (tlAny_tiles outT).trans (Entails.of_eq (bigSep22 _))

theorem tl_outs {c : Dev nD} {m : Memref sig .tc .vmem S2x512x2048 .f32} {q : PosShare TreeShare}
    {v : S2x512x2048.Idx → Elt F .f32} :
    (tl c m Finset.univ q v : sProp (MM F)) = iprop(tl c m (outR 0 0).set q v ∗ tl c m (outR 0 1).set q v
      ∗ tl c m (outR 1 0).set q v ∗ tl c m (outR 1 1).set q v) :=
  (tl_tiles outT).trans (bigSep22 _)

/-! ### Reached cells -/

variable (F) in
/-- Every own cell's round 0 is open. -/
def opens (c : Dev nD) : sProp (MM F) := bigSep Finset.univ fun k : Fin 22 => reached ER (cell c k) 0
instance opens_persistent (c : Dev nD) : BI.Persistent (opens F c) := by unfold opens; infer_instance
theorem opens_at (c : Dev nD) (k : Fin 22) : opens F c ⊢ reached ER (cell c k) 0 := bigSep_elim (Finset.mem_univ k)

variable {ins : Dev nD → In F} {κ : GSem nD τ sig → ℕ}

/-! ### The barrier -/

def barPre (c : Dev nD) : sProp (MM F) :=
  iprop(opens F c ∗ ow c (O₀ c) ∗ (dutyTok ER (bar (xn c)) 0 false ∗ reached ER (bar (xn c)) 0)
    ∗ (dutyTok ER (bar (yn c)) 0 true ∗ reached ER (bar (yn c)) 0) ∗ cred (tallyAt (bar c) () 2) ∗ atPos ER (bar c) 0 ∅ 0
    ∗ tlAny c mCn Finset.univ ∗ tlAny c mWukn Finset.univ ∗ tlAny c mWuvn Finset.univ ∗ tlAny c mO Finset.univ)

def barPost (c : Dev nD) : sProp (MM F) :=
  iprop(ow c (oweR c [0, 1, 2]) ∗ atPos ER (bar c) 1 ∅ 0 ∗ barXPay c ∗ barYPay c)

theorem barX_give (c : Dev nD) :
    iprop(opens F c ∗ tlAny c mCn Finset.univ ∗ tlAny c mWukn Finset.univ ∗ tlAny c mWuvn Finset.univ) ⊢ barXPay (xn c) := by
  unfold barXPay
  rw [xn_xn]
  iintro ⟨#Ho, H0, H1, H2⟩
  isplitl [H0]; · iexact H0
  isplitl [H1]; · iexact H1
  isplitl [H2]; · iexact H2
  isplitr; · iapply (opens_at c (recvK 0)); iexact Ho
  isplitr; · iapply (opens_at c (recvK 1)); iexact Ho
  iapply (opens_at c (recvK 2)); iexact Ho

theorem barY_give (c : Dev nD) : iprop(opens F c ∗ tlAny c mO Finset.univ) ⊢ barYPay (yn c) := by
  unfold barYPay
  rw [yn_yn]
  refine BI.Entails.trans (sep_mono_right (tlAny_tiles headsT)) ?_
  refine bigSep_with_persistent (fun h _ => ?_)
  iintro ⟨#Ho, H⟩
  isplitl [H]; · iexact H
  iapply (opens_at c (orecvK h)); iexact Ho

theorem bar_phase {Q : PUnit → sProp (MM F)} (c : Dev nD) (rest : Pg F PUnit) :
    iprop((ctx ins κ ∗ barPre c) ∗ (barPost c -∗ WP c rest Q))
      ⊢ WP c (do
          semSignalWord (xn c) barS.sem 1#32
          semSignalWord (yn c) barS.sem 1#32
          semWaitWord barS.sem 2#32
          rest) Q := by
  unfold barPre barPost
  iintro ⟨⟨#Hc, #Ho, HO, ⟨Htx, Hrx⟩, ⟨Hty, Hry⟩, Hcr, Ha, H0, H1, H2, H3⟩, Hk⟩
  iapply (signal_run (ins := ins) (κ := κ) (c := c) (d := xn c) false (oweR c [0, 1, 2] + tallyAt (bar (yn c)) () 1)
    (k := fun _ => do
          semSignalWord (yn c) barS.sem 1#32
          semWaitWord barS.sem 2#32
          rest))
  isplitl [HO Htx Hrx H0 H1 H2]
  · isplitr; · iexact Hc
    isplitl [HO]; · unfold O₀; iexact HO
    isplitl [Htx]; · iexact Htx
    isplitl [H0 H1 H2]
    · rw [payload_barX]
      iapply (barX_give c)
      isplitr; · iexact Ho
      isplitl [H0]; · iexact H0
      isplitl [H1]; · iexact H1
      iexact H2
    iexact Hrx
  iintro HO
  iapply (signal_run (ins := ins) (κ := κ) (c := c) (d := yn c) true (oweR c [0, 1, 2])
    (k := fun _ => do
          semWaitWord barS.sem 2#32
          rest))
  isplitl [HO Hty Hry H3]
  · isplitr; · iexact Hc
    isplitl [HO]; · iexact HO
    isplitl [Hty]; · iexact Hty
    isplitl [H3]
    · rw [payload_barY]
      iapply (barY_give c)
      isplitr; · iexact Ho
      iexact H3
    iexact Hry
  iintro HO
  iapply (barrier_run (ins := ins) (κ := κ) (c := c) (O := oweR c [0, 1, 2]) (above_oweR c _) (k := fun _ => rest))
  isplitl [HO Hcr Ha]
  · isplitr; · iexact Hc
    isplitl [Hcr]; · iexact Hcr
    isplitl [HO]; · iexact HO
    iexact Ha
  iexact Hk

/-! ### The latent -/

theorem c_phase {Q : PUnit → sProp (MM F)} (c : Dev nD) (I : In F) (rest : Pg F PUnit) (hc : mC.IsWhole) :
    iprop((tl c mX Finset.univ fullShare I.x ∗ tl c mWdkv Finset.univ fullShare I.wdkv ∗ tlAny c mC Finset.univ)
      ∗ ((tl c mX Finset.univ fullShare I.x ∗ tl c mWdkv Finset.univ fullShare I.wdkv ∗ tl c mC Finset.univ fullShare (cV I))
        -∗ WP c rest Q))
      ⊢ WP c (do
          cPart mX mWdkv mC hc 0
          cPart mX mWdkv mC hc 1
          rest) Q := by
  iintro ⟨⟨Hx, Hw, H⟩, Hk⟩
  ihave H := tlAny_rows $$ H
  icases H with ⟨H0, H1, H2, H3⟩
  rw [WP_bind]
  iapply (cPart_run c I)
  isplitl [Hx Hw H0 H1]
  · isplitl [Hx]; · iexact Hx
    isplitl [Hw]; · iexact Hw
    isplitl [H0]; · iexact H0
    iexact H1
  iintro ⟨Hx, Hw, H0, H1⟩
  rw [WP_bind]
  iapply (cPart_run c I)
  isplitl [Hx Hw H2 H3]
  · isplitl [Hx]; · iexact Hx
    isplitl [Hw]; · iexact Hw
    isplitl [H2]; · iexact H2
    iexact H3
  iintro ⟨Hx, Hw, H2, H3⟩
  iapply Hk
  isplitl [Hx]; · iexact Hx
  isplitl [Hw]; · iexact Hw
  rw [tl_rows (n := 128)]
  isplitl [H0]; · iexact H0
  isplitl [H1]; · iexact H1
  isplitl [H2]; · iexact H2
  iexact H3

/-! ### The three whole-buffer copies -/

/-- What copy `i` takes beside its source. -/
def sendRes (c : Dev nD) (i : Fin 3) {s : Shape} (b : Memref sig .tc .vmem s .bf16) : sProp (MM F) :=
  iprop((dutyTok ER (cell c (sendK i)) 0 false ∗ reached ER (cell c (sendK i)) 0)
    ∗ (dutyTok ER (cell (xn c) (recvK i)) 0 false ∗ reached ER (cell (xn c) (recvK i)) 0) ∗ tlAny (xn c) b Finset.univ)

theorem amt_send (i : Fin 3) : amt (sendK i) = amt (recvK i) := by fin_cases i <;> rfl
theorem amt_osend (h : Fin 8) : amt (osendK h) = amt (orecvK h) := by fin_cases h <;> rfl

theorem send_phase {Q : PUnit → sProp (MM F)} (c : Dev nD) (i : Fin 3) (l : List (Fin 3)) {s : Shape}
    (a : Memref sig .tc .vmem s .bf16) (ha : a.IsWhole) (b : Memref sig .tc .vmem s .bf16) (hb : b.IsWhole)
    (hN : b.view.amount (.dma (enc (recvK i))) = amt (recvK i)) (v : s.Idx → Elt F .bf16)
    (h₁ : tl c a Finset.univ fullShare v ⊢ pay ins c (sendK i))
    (h₂ : tl (xn c) b Finset.univ fullShare v ⊢ pay ins (xn c) (recvK i)) (rest : Pg F PUnit) :
    iprop((ctx ins κ ∗ ow c (oweR c (i :: l)) ∗ tl c a Finset.univ fullShare v ∗ sendRes c i b)
      ∗ ((ow c (oweR c l) ∗ cred (tallyAt (cell c (sendK i)) () (amt (sendK i)))) -∗ WP c rest Q))
      ⊢ WP c (do
          sendPart a ha b hb cc0_scratch10 cc0_scratch11 i (xn c)
          rest) Q := by
  unfold sendRes
  iintro ⟨⟨#Hc, HO, Ha, Ht, ⟨Ht', Hr'⟩, Hb⟩, Hk⟩
  rw [show (do sendPart a ha b hb cc0_scratch10 cc0_scratch11 i (xn c); rest : Pg F PUnit)
    = .op (.enqueueDma a (.remote (Dev.tc (xn c)) b (.dma (sem3 cc0_scratch10 i))) (.dma (sem3 cc0_scratch11 i)) ha.wordExact
        hb.wordExact ⟨⟨rfl, Or.inl rfl⟩, trivial⟩) (fun _ => rest) from rfl]
  iapply (send_run (ins := ins) (κ := κ) (c := c) (d := xn c) (oweR c l) (a := a) (b := b) (kx := fun _ => rest)
    (sendK i) (recvK i) (sem_send i) (sem_recv i) hN (amt_send i) h₁ h₂)
  isplitl [HO Ha Ht Ht' Hr' Hb]
  · isplitr; · iexact Hc
    isplitl [Ha]; · iexact Ha
    isplitl [Hb]; · iexact Hb
    isplitl [HO]; · iexact HO
    isplitl [Ht]; · iexact Ht
    isplitl [Ht']; · iexact Ht'
    iexact Hr'
  iintro ⟨Hcr, HO⟩
  iapply Hk
  isplitl [HO]; · iexact HO
  iexact Hcr

/-- The two waits of copy `i`, while the heads are still owed. -/
theorem wait_phase {Q : PUnit → sProp (MM F)} (c : Dev nD) (i : Fin 3) {s : Shape}
    (a : Memref sig .tc .vmem s .bf16) (ha : a.IsWhole) (b : Memref sig .tc .vmem s .bf16) (hb : b.IsWhole)
    (hN : a.view.dmaCredit = amt (sendK i)) (hN' : b.view.dmaCredit = amt (recvK i)) (rest : Pg F PUnit) :
    iprop((ctx ins κ ∗ ow c (oweR c []) ∗ (cred (tallyAt (cell c (sendK i)) () (amt (sendK i))) ∗ atPos ER (cell c (sendK i)) 0 ∅ 0)
        ∗ (cred (tallyAt (cell c (recvK i)) () (amt (recvK i))) ∗ atPos ER (cell c (recvK i)) 0 ∅ 0))
      ∗ ((ow c (oweR c []) ∗ (atPos ER (cell c (sendK i)) 1 ∅ 0 ∗ pay ins c (sendK i))
        ∗ (atPos ER (cell c (recvK i)) 1 ∅ 0 ∗ pay ins c (recvK i))) -∗ WP c rest Q))
      ⊢ WP c (do
          waitPart a ha b hb cc0_scratch10 cc0_scratch11 i
          rest) Q := by
  iintro ⟨⟨#Hc, HO, ⟨Hcr, Hat⟩, ⟨Hcr', Hat'⟩⟩, Hk⟩
  rw [show (do waitPart a ha b hb cc0_scratch10 cc0_scratch11 i; rest : Pg F PUnit)
    = .op (.waitDma2 (sem3 cc0_scratch10 i) b a hb.wordExact ha.wordExact) (fun _ =>
        .op (.waitDma2 (sem3 cc0_scratch11 i) a b ha.wordExact hb.wordExact) (fun _ => rest)) from rfl]
  iapply (wait_run (ins := ins) (κ := κ) (c := c) (O := oweR c []) (a := b) (b := a) (ha := hb.wordExact) (hb := ha.wordExact)
    (kx := fun _ => .op (.waitDma2 (sem3 cc0_scratch11 i) a b ha.wordExact hb.wordExact) (fun _ => rest))
    (sendK i) (sem_send i) hN 1 (by rw [lv_send]; decide) (above_oweR c []))
  isplitl [HO Hcr Hat]
  · isplitr; · iexact Hc
    isplitl [Hcr]; · iexact Hcr
    isplitl [HO]; · iexact HO
    iexact Hat
  iintro ⟨HO, Hat, Hp⟩
  iapply (wait_run (ins := ins) (κ := κ) (c := c) (O := oweR c []) (a := a) (b := b) (ha := ha.wordExact) (hb := hb.wordExact)
    (kx := fun _ => rest)
    (recvK i) (sem_recv i) hN' 2 (by rw [lv_recv]) (above_oweH c _))
  isplitl [HO Hcr' Hat']
  · isplitr; · iexact Hc
    isplitl [Hcr']; · iexact Hcr'
    isplitl [HO]; · iexact HO
    iexact Hat'
  iintro ⟨HO, Hat', Hp'⟩
  iapply Hk
  isplitl [HO]; · iexact HO
  isplitl [Hat Hp]; · isplitl [Hat] <;> iassumption
  isplitl [Hat'] <;> iassumption

/-! ### Queries, rotary queries and keys -/

theorem q_phase {Q : PUnit → sProp (MM F)} (c : Dev nD) (I : In F) (rest : Pg F PUnit) (hq : mQ.IsWhole) (hqr : mQr.IsWhole)
    (hkr : mKr.IsWhole) :
    iprop((qIns c I mX mWq mWqr mWkr ∗ tlAny c mQ Finset.univ ∗ tlAny c mQr Finset.univ ∗ tlAny c mKr Finset.univ)
      ∗ ((qIns c I mX mWq mWqr mWkr ∗ tl c mQ Finset.univ fullShare (qV I) ∗ tl c mQr Finset.univ fullShare (qrV I)
          ∗ tl c mKr Finset.univ fullShare (krV I)) -∗ WP c rest Q))
      ⊢ WP c (do
          qPart mX mWq mWqr mWkr mQ hq mQr hqr mKr hkr 0
          qPart mX mWq mWqr mWkr mQ hq mQr hqr mKr hkr 1
          rest) Q := by
  iintro ⟨⟨Hi, H, H', H''⟩, Hk⟩
  ihave H := tlAny_rows $$ H
  icases H with ⟨A0, A1, A2, A3⟩
  ihave H' := tlAny_rows $$ H'
  icases H' with ⟨B0, B1, B2, B3⟩
  ihave H'' := tlAny_rows $$ H''
  icases H'' with ⟨C0, C1, C2, C3⟩
  rw [WP_bind]
  iapply (qPart_run c I)
  unfold qBefore qAfter
  isplitl [Hi A0 A1 B0 B1 C0 C1]
  · isplitl [Hi]; · iexact Hi
    isplitl [A0 B0 C0]
    · isplitl [A0]; · iexact A0
      isplitl [B0] <;> iassumption
    isplitl [A1]; · iexact A1
    isplitl [B1] <;> iassumption
  iintro ⟨Hi, ⟨A0, B0, C0⟩, A1, B1, C1⟩
  rw [WP_bind]
  iapply (qPart_run c I)
  unfold qBefore qAfter
  isplitl [Hi A2 A3 B2 B3 C2 C3]
  · isplitl [Hi]; · iexact Hi
    isplitl [A2 B2 C2]
    · isplitl [A2]; · iexact A2
      isplitl [B2] <;> iassumption
    isplitl [A3]; · iexact A3
    isplitl [B3] <;> iassumption
  iintro ⟨Hi, ⟨A2, B2, C2⟩, A3, B3, C3⟩
  iapply Hk
  isplitl [Hi]; · iexact Hi
  rw [tl_rows (n := 1024), tl_rows (n := 256), tl_rows (n := 32)]
  isplitl [A0 A1 A2 A3]
  · isplitl [A0]; · iexact A0
    isplitl [A1]; · iexact A1
    isplitl [A2] <;> iassumption
  isplitl [B0 B1 B2 B3]
  · isplitl [B0]; · iexact B0
    isplitl [B1]; · iexact B1
    isplitl [B2] <;> iassumption
  isplitl [C0]; · iexact C0
  isplitl [C1]; · iexact C1
  isplitl [C2] <;> iassumption

/-! ### Keys and values -/

theorem kv_phase {Q : PUnit → sProp (MM F)} (c : Dev nD) (Ic In' : In F) (rest : Pg F PUnit) (hk : mK.IsWhole) (hv : mV.IsWhole) :
    iprop((kvIns c Ic In' mC mCn mWuk mWukn mWuv mWuvn ∗ tlAny c mK Finset.univ ∗ tlAny c mV Finset.univ)
      ∗ ((kvIns c Ic In' mC mCn mWuk mWukn mWuv mWuvn
          ∗ tl c mK Finset.univ fullShare (kvV (cV Ic) (cV In') Ic.wuk In'.wuk)
          ∗ tl c mV Finset.univ fullShare (kvV (cV Ic) (cV In') Ic.wuv In'.wuv)) -∗ WP c rest Q))
      ⊢ WP c (do
          kvPart mC mCn mWuk mWukn mWuv mWuvn mK hk mV hv 0
          kvPart mC mCn mWuk mWukn mWuv mWuvn mK hk mV hv 1
          kvPart mC mCn mWuk mWukn mWuv mWuvn mK hk mV hv 2
          kvPart mC mCn mWuk mWukn mWuv mWuvn mK hk mV hv 3
          rest) Q := by
  have step : ∀ (j : Fin 4) (r : Pg F PUnit),
      iprop((kvIns c Ic In' mC mCn mWuk mWukn mWuv mWuvn ∗ kvBefore c mK mV j)
        ∗ ((kvIns c Ic In' mC mCn mWuk mWukn mWuv mWuvn ∗ kvAfter c Ic In' mK mV j) -∗ WP c r Q))
        ⊢ WP c (do kvPart mC mCn mWuk mWukn mWuv mWuvn mK hk mV hv j; r) Q := by
    intro j r
    rw [WP_bind]
    exact kvPart_run c (fun _ => WP c r Q) Ic In' mC mCn mWuk mWukn mWuv mWuvn mK hk mV hv j
  iintro ⟨⟨Hi, H, H'⟩, Hk⟩
  ihave H := (tlAny_tiles (rowsT 1024)).trans (Entails.of_eq (bigSep4 _)) $$ H
  icases H with ⟨A0, A1, A2, A3⟩
  ihave H' := (tlAny_tiles (rowsT 1024)).trans (Entails.of_eq (bigSep4 _)) $$ H'
  icases H' with ⟨B0, B1, B2, B3⟩
  unfold kvBefore kvAfter at step
  iapply (step 0)
  isplitl [Hi A0 B0]
  · isplitl [Hi]; · iexact Hi
    isplitl [A0]; · iexact A0
    iexact B0
  iintro ⟨Hi, A0, B0⟩
  iapply (step 1)
  isplitl [Hi A1 B1]
  · isplitl [Hi]; · iexact Hi
    isplitl [A1]; · iexact A1
    iexact B1
  iintro ⟨Hi, A1, B1⟩
  iapply (step 2)
  isplitl [Hi A2 B2]
  · isplitl [Hi]; · iexact Hi
    isplitl [A2]; · iexact A2
    iexact B2
  iintro ⟨Hi, A2, B2⟩
  iapply (step 3)
  isplitl [Hi A3 B3]
  · isplitl [Hi]; · iexact Hi
    isplitl [A3]; · iexact A3
    iexact B3
  iintro ⟨Hi, A3, B3⟩
  iapply Hk
  isplitl [Hi]; · iexact Hi
  rw [tl_tiles (rowsT 1024), tl_tiles (rowsT 1024), bigSep4, bigSep4]
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

end Cert.KernelIdeal.Hand
-- ==== Proof.Heads.lean ====
/- The heads: computed, copied, waited for; the output blocks. -/
module

public import proofs.«01_k».proof.Proof.Phases

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]
variable {ins : Dev nD → In F} {κ : GSem nD τ sig → ℕ}

/-! ### One head and its copy -/

/-- What the copy of head `h` takes beside its source. -/
def headRes (c : Dev nD) (h : Fin 8) : sProp (MM F) :=
  iprop((dutyTok ER (cell c (osendK h)) 0 false ∗ reached ER (cell c (osendK h)) 0)
    ∗ dutyTok ER (cell (yn c) (orecvK h)) 0 false ∗ (tlAny (yn c) mO (headR h).set ∗ reached ER (cell (yn c) (orecvK h)) 0))

/-- What is kept of head `h` while its copy flies. -/
def headDone (ins : Dev nD → In F) (c : Dev nD) (h : Fin 8) : sProp (MM F) :=
  iprop(cred (tallyAt (cell c (osendK h)) () (amt (osendK h))) ∗ tl c mQ (headR h).set fullShare.right (aD ins c))

/-- What the attention tiles of device `c` read whole. -/
def atHeld (ins : Dev nD → In F) (c : Dev nD) : sProp (MM F) :=
  atIns c mKr mQr mK mV (krV (ins c)) (qrV (ins c)) (kD ins c) (vD ins c)

theorem credit_head (m : Memref sig .tc .vmem S1024x1024 .bf16) (h : Fin 8) : (headM m h).view.dmaCredit = NH := rfl
theorem amt_orecv (h : Fin 8) : amt (orecvK h) = NH := by fin_cases h <;> rfl

theorem head_phase {Q : PUnit → sProp (MM F)} (c : Dev nD) (h : Fin 8) (l : List (Fin 8)) (hq : mQ.IsWhole) (ho : mO.IsWhole)
    (rest : Pg F PUnit) :
    iprop((ctx ins κ ∗ atHeld ins c ∗ ow c (oweH c (h :: l)) ∗ headRes c h ∗ tl c mQ (headR h).set fullShare (qV (ins c)))
      ∗ ((atHeld ins c ∗ ow c (oweH c l) ∗ headDone ins c h) -∗ WP c rest Q))
      ⊢ WP c (do
          headPart mQ hq mQr mKr mK mV mO ho cc0_scratch12 cc0_scratch13 h (yn c)
          rest) Q := by
  unfold headRes headDone atHeld
  iintro ⟨⟨#Hc, Hi, HO, ⟨Ht, Ht', Hd, Hr'⟩, Hq⟩, Hk⟩
  ihave Hq := (tl_head h).1 $$ Hq
  icases Hq with ⟨H0, H1⟩
  rw [show (do headPart mQ hq mQr mKr mK mV mO ho cc0_scratch12 cc0_scratch13 h (yn c); rest : Pg F PUnit)
    = (tilePart mQ hq mQr mKr mK mV h 0 >>= fun _ => tilePart mQ hq mQr mKr mK mV h 1 >>= fun _ =>
        .op (.enqueueDma (headM mQ h) (.remote (Dev.tc (yn c)) (headM mO h) (.dma (sem8 cc0_scratch12 h))) (.dma (sem8 cc0_scratch13 h))
          (hq.wordExact_slice rfl _ (head_words h)) (ho.wordExact_slice rfl _ (head_words h)) ⟨⟨rfl, Or.inl rfl⟩, trivial⟩)
          (fun _ => rest)) from rfl]
  rw [WP_bind]
  iapply (tilePart_run c _ mQ hq mQr mKr mK mV (krV (ins c)) (qrV (ins c)) (qV (ins c)) (kD ins c) (vD ins c) h 0)
  isplitl [Hi H0]
  · isplitl [Hi] <;> iassumption
  iintro ⟨Hi, H0⟩
  rw [WP_bind]
  iapply (tilePart_run c _ mQ hq mQr mKr mK mV (krV (ins c)) (qrV (ins c)) (qV (ins c)) (kD ins c) (vD ins c) h 1)
  isplitl [Hi H1]
  · isplitl [Hi] <;> iassumption
  iintro ⟨Hi, H1⟩
  ihave Hq : (tl c mQ (headR h).set fullShare (aD ins c)) $$ [H0 H1]
  · iapply (tl_head h).2
    isplitl [H0]; · iexact H0
    iexact H1
  ihave Hq := tl_half.1 $$ Hq
  icases Hq with ⟨HL, HR⟩
  iapply (send_run (ins := ins) (κ := κ) (c := c) (d := yn c) (oweH c l) (a := headM mQ h) (b := headM mO h) (kx := fun _ => rest)
    (osendK h) (orecvK h) (sem_osend h) (sem_orecv h) (amt_orecv h).symm (amt_osend h) (q := fullShare.left)
    (v := fun x => aD ins c ((headR h).emb x))
    (by rw [pay_osend]; exact (tl_slice fun _ => rfl).1)
    (by rw [pay_orecv, yn_yn]; exact (tl_slice fun _ => rfl).1))
  isplitl [HO HL Ht Ht' Hr' Hd]
  · isplitr; · iexact Hc
    isplitl [HL]; · iapply (tl_slice fun _ => rfl).2; iexact HL
    isplitl [Hd]
    · unfold tlAny
      icases Hd with ⟨%v, Hd⟩
      iexists (fun x => v ((headR h).emb x))
      iapply (tl_slice fun _ => rfl).2; iexact Hd
    isplitl [HO]; · iexact HO
    isplitl [Ht]; · iexact Ht
    isplitl [Ht']; · iexact Ht'
    iexact Hr'
  iintro ⟨Hcr, HO⟩
  iapply Hk
  isplitl [Hi]; · iexact Hi
  isplitl [HO]; · iexact HO
  isplitl [Hcr]; · iexact Hcr
  iexact HR

theorem heads_phase {Q : PUnit → sProp (MM F)} (c : Dev nD) (hq : mQ.IsWhole) (ho : mO.IsWhole) (rest : Pg F PUnit) :
    iprop((ctx ins κ ∗ atHeld ins c ∗ ow c (oweR c []) ∗ (bigSep Finset.univ fun h => headRes c h)
        ∗ tl c mQ Finset.univ fullShare (qV (ins c)))
      ∗ ((atHeld ins c ∗ ow c 0 ∗ bigSep Finset.univ fun h => headDone ins c h) -∗ WP c rest Q))
      ⊢ WP c (do
          headPart mQ hq mQr mKr mK mV mO ho cc0_scratch12 cc0_scratch13 0 (yn c)
          headPart mQ hq mQr mKr mK mV mO ho cc0_scratch12 cc0_scratch13 1 (yn c)
          headPart mQ hq mQr mKr mK mV mO ho cc0_scratch12 cc0_scratch13 2 (yn c)
          headPart mQ hq mQr mKr mK mV mO ho cc0_scratch12 cc0_scratch13 3 (yn c)
          headPart mQ hq mQr mKr mK mV mO ho cc0_scratch12 cc0_scratch13 4 (yn c)
          headPart mQ hq mQr mKr mK mV mO ho cc0_scratch12 cc0_scratch13 5 (yn c)
          headPart mQ hq mQr mKr mK mV mO ho cc0_scratch12 cc0_scratch13 6 (yn c)
          headPart mQ hq mQr mKr mK mV mO ho cc0_scratch12 cc0_scratch13 7 (yn c)
          rest) Q := by
  -- one step, the heads still to come and those done kept as lists
  have step : ∀ (h : Fin 8) (l : List (Fin 8)) (r : Pg F PUnit) (A D : sProp (MM F)),
      (iprop(ctx ins κ ∗ (atHeld ins c ∗ ow c (oweH c l) ∗ A ∗ (headDone ins c h ∗ D)) ∗ ((atHeld ins c ∗ ow c 0 ∗ bigSep Finset.univ fun h => headDone ins c h) -∗ WP c rest Q)) ⊢ WP c r Q) →
      iprop(ctx ins κ ∗ (atHeld ins c ∗ ow c (oweH c (h :: l)) ∗ ((headRes c h ∗ tl c mQ (headR h).set fullShare (qV (ins c))) ∗ A) ∗ D)
        ∗ ((atHeld ins c ∗ ow c 0 ∗ bigSep Finset.univ fun h => headDone ins c h) -∗ WP c rest Q))
        ⊢ WP c (do headPart mQ hq mQr mKr mK mV mO ho cc0_scratch12 cc0_scratch13 h (yn c); r) Q := by
    intro h l r A D hr
    iintro ⟨#Hc, ⟨Hi, HO, ⟨⟨Hh, Hq⟩, HA⟩, HD⟩, Hk⟩
    iapply (head_phase (ins := ins) (κ := κ) c h l hq ho r)
    isplitl [Hi HO Hh Hq]
    · isplitr; · iexact Hc
      isplitl [Hi]; · iexact Hi
      isplitl [HO]; · iexact HO
      isplitl [Hh]; · iexact Hh
      iexact Hq
    iintro ⟨Hi, HO, Hd⟩
    iapply hr
    isplitr; · iexact Hc
    isplitr [Hk]
    · isplitl [Hi]; · iexact Hi
      isplitl [HO]; · iexact HO
      isplitl [HA]; · iexact HA
      isplitl [Hd]; · iexact Hd
      iexact HD
    iexact Hk
  have all := step 0 [1, 2, 3, 4, 5, 6, 7] _ _ iprop(emp) <| step 1 [2, 3, 4, 5, 6, 7] _ _ _ <| step 2 [3, 4, 5, 6, 7] _ _ _ <|
    step 3 [4, 5, 6, 7] _ _ _ <| step 4 [5, 6, 7] _ _ _ <| step 5 [6, 7] _ _ _ <| step 6 [7] _ _ _ <| step 7 [] rest iprop(emp) _ <| by
      iintro ⟨-, ⟨Hi, HO, -, D7, D6, D5, D4, D3, D2, D1, D0, -⟩, Hk⟩
      iapply Hk
      isplitl [Hi]; · iexact Hi
      isplitl [HO]; · iexact HO
      rw [bigSep8]
      isplitl [D0]; · iexact D0
      isplitl [D1]; · iexact D1
      isplitl [D2]; · iexact D2
      isplitl [D3]; · iexact D3
      isplitl [D4]; · iexact D4
      isplitl [D5]; · iexact D5
      isplitl [D6]; · iexact D6
      iexact D7
  rw [tl_heads]
  iintro ⟨⟨#Hc, Hi, HO, Hh, Hq⟩, Hk⟩
  iapply all
  isplitr; · iexact Hc
  isplitr [Hk]
  · isplitl [Hi]; · iexact Hi
    isplitl [HO]; · iexact HO
    isplitr []
    · ihave H := (Entails.of_eq (bigSep_sep' Finset.univ (fun h : Fin 8 => (headRes c h : sProp (MM F)))
        (fun h : Fin 8 => tl c mQ (headR h).set fullShare (qV (ins c)))).symm) $$ [Hh Hq]
      · isplitl [Hh]; · iexact Hh
        iexact Hq
      ihave H := (Entails.of_eq (bigSep8 _)) $$ H
      icases H with ⟨A0, A1, A2, A3, A4, A5, A6, A7⟩
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iempintro
    iempintro
  iexact Hk

/-! ### Waiting for the heads -/

/-- What a wait of head `h` takes and gives, on the cells `k h`. -/
def hWait (c : Dev nD) (k : Fin 22) : sProp (MM F) :=
  iprop(cred (tallyAt (cell c k) () (amt k)) ∗ atPos ER (cell c k) 0 ∅ 0)
def hGot (ins : Dev nD → In F) (c : Dev nD) (k : Fin 22) : sProp (MM F) :=
  iprop(atPos ER (cell c k) 1 ∅ 0 ∗ pay ins c k)

/-- Eight waits in a row, nothing owed. -/
theorem waits_phase {Q : PUnit → sProp (MM F)} (c : Dev nD) (k : Fin 8 → Fin 22) (w : Fin 8 → Pg F PUnit)
    (hw : ∀ h (r : Pg F PUnit), iprop((ctx ins κ ∗ ow c 0 ∗ hWait c (k h)) ∗ ((ow c 0 ∗ hGot ins c (k h)) -∗ WP c r Q)) ⊢ WP c (w h >>= fun _ => r) Q)
    (rest : Pg F PUnit) :
    iprop((ctx ins κ ∗ ow c 0 ∗ bigSep Finset.univ fun h => hWait c (k h))
      ∗ ((ow c 0 ∗ bigSep Finset.univ fun h => hGot ins c (k h)) -∗ WP c rest Q))
      ⊢ WP c (do w 0; w 1; w 2; w 3; w 4; w 5; w 6; w 7; rest) Q := by
  have step : ∀ (h : Fin 8) (r : Pg F PUnit) (A D : sProp (MM F)),
      (iprop(ctx ins κ ∗ (ow c 0 ∗ A ∗ (hGot ins c (k h) ∗ D)) ∗ ((ow c 0 ∗ bigSep Finset.univ fun h => hGot ins c (k h)) -∗ WP c rest Q)) ⊢ WP c r Q) →
      iprop(ctx ins κ ∗ (ow c 0 ∗ (hWait c (k h) ∗ A) ∗ D) ∗ ((ow c 0 ∗ bigSep Finset.univ fun h => hGot ins c (k h)) -∗ WP c rest Q))
        ⊢ WP c (do w h; r) Q := by
    intro h r A D hr
    iintro ⟨#Hc, ⟨HO, ⟨Hh, HA⟩, HD⟩, Hk⟩
    iapply (hw h r)
    isplitl [HO Hh]
    · isplitr; · iexact Hc
      isplitl [HO]; · iexact HO
      iexact Hh
    iintro ⟨HO, Hd⟩
    iapply hr
    isplitr; · iexact Hc
    isplitr [Hk]
    · isplitl [HO]; · iexact HO
      isplitl [HA]; · iexact HA
      isplitl [Hd]; · iexact Hd
      iexact HD
    iexact Hk
  have all := step 0 _ _ iprop(emp) <| step 1 _ _ _ <| step 2 _ _ _ <| step 3 _ _ _ <| step 4 _ _ _ <| step 5 _ _ _ <|
    step 6 _ _ _ <| step 7 rest iprop(emp) _ <| by
      iintro ⟨-, ⟨HO, -, D7, D6, D5, D4, D3, D2, D1, D0, -⟩, Hk⟩
      iapply Hk
      isplitl [HO]; · iexact HO
      rw [bigSep8]
      isplitl [D0]; · iexact D0
      isplitl [D1]; · iexact D1
      isplitl [D2]; · iexact D2
      isplitl [D3]; · iexact D3
      isplitl [D4]; · iexact D4
      isplitl [D5]; · iexact D5
      isplitl [D6]; · iexact D6
      iexact D7
  iintro ⟨⟨#Hc, HO, H⟩, Hk⟩
  iapply all
  isplitr; · iexact Hc
  isplitr [Hk]
  · isplitl [HO]; · iexact HO
    isplitl [H]
    · ihave H := (Entails.of_eq (bigSep8 _)) $$ H
      icases H with ⟨A0, A1, A2, A3, A4, A5, A6, A7⟩
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iempintro
    iempintro
  iexact Hk

theorem recv_step {Q : PUnit → sProp (MM F)} (c : Dev nD) (hq : mQ.IsWhole) (ho : mO.IsWhole) (h : Fin 8) (r : Pg F PUnit) :
    iprop((ctx ins κ ∗ ow c 0 ∗ hWait c (orecvK h)) ∗ ((ow c 0 ∗ hGot ins c (orecvK h)) -∗ WP c r Q))
      ⊢ WP c (waitRecv mQ hq mO ho cc0_scratch13 h >>= fun _ => r) Q := by
  unfold hWait hGot
  iintro ⟨⟨#Hc, HO, Hcr, Ha⟩, Hk⟩
  iapply (wait_run (ins := ins) (κ := κ) (c := c) (O := 0) (a := headM mQ h) (b := headM mO h) (kx := fun _ => r)
    (orecvK h) (sem_orecv h) (amt_orecv h).symm 3 (by rw [lv_orecv]) (Above.zero 3))
  isplitl [HO Hcr Ha]
  · isplitr; · iexact Hc
    isplitl [Hcr]; · iexact Hcr
    isplitl [HO]; · iexact HO
    iexact Ha
  iexact Hk

theorem sent_step {Q : PUnit → sProp (MM F)} (c : Dev nD) (hq : mQ.IsWhole) (ho : mO.IsWhole) (h : Fin 8) (r : Pg F PUnit) :
    iprop((ctx ins κ ∗ ow c 0 ∗ hWait c (osendK h)) ∗ ((ow c 0 ∗ hGot ins c (osendK h)) -∗ WP c r Q))
      ⊢ WP c (waitSend mQ hq mO ho cc0_scratch12 h >>= fun _ => r) Q := by
  unfold hWait hGot
  iintro ⟨⟨#Hc, HO, Hcr, Ha⟩, Hk⟩
  iapply (wait_run (ins := ins) (κ := κ) (c := c) (O := 0) (a := headM mO h) (b := headM mQ h) (kx := fun _ => r)
    (osendK h) (sem_osend h) ((amt_osend h).trans (amt_orecv h)).symm 0 (by rw [lv_osend]) (Above.zero 0))
  isplitl [HO Hcr Ha]
  · isplitr; · iexact Hc
    isplitl [Hcr]; · iexact Hcr
    isplitl [HO]; · iexact HO
    iexact Ha
  iexact Hk

/-! ### The output blocks -/

theorem out1_phase {Q : PUnit → sProp (MM F)} (c : Dev nD) (sh : PosShare TreeShare) (o : S1024x1024.Idx → Elt F .bf16)
    (w : Vec F S1024x2048 .bf16) (rest : Pg F PUnit) :
    iprop((tl c mQ Finset.univ sh o ∗ tl c mWoM Finset.univ fullShare w ∗ tlAny c mOut Finset.univ)
      ∗ ((tl c mQ Finset.univ sh o ∗ tl c mWoM Finset.univ fullShare w ∗ tl c mOut Finset.univ fullShare (out1V o w)) -∗ WP c rest Q))
      ⊢ WP c (do
          out1Part mQ mWoM mOut 0 0
          out1Part mQ mWoM mOut 0 1
          out1Part mQ mWoM mOut 1 0
          out1Part mQ mWoM mOut 1 1
          rest) Q := by
  iintro ⟨⟨Hq, Hw, H⟩, Hk⟩
  ihave H := tlAny_outs $$ H
  icases H with ⟨H0, H1, H2, H3⟩
  rw [WP_bind]
  iapply (out1Part_run c _ mQ mWoM mOut sh o w 0 0)
  isplitl [Hq Hw H0]
  · isplitl [Hq]; · iexact Hq
    isplitl [Hw] <;> iassumption
  iintro ⟨Hq, Hw, H0⟩
  rw [WP_bind]
  iapply (out1Part_run c _ mQ mWoM mOut sh o w 0 1)
  isplitl [Hq Hw H1]
  · isplitl [Hq]; · iexact Hq
    isplitl [Hw] <;> iassumption
  iintro ⟨Hq, Hw, H1⟩
  rw [WP_bind]
  iapply (out1Part_run c _ mQ mWoM mOut sh o w 1 0)
  isplitl [Hq Hw H2]
  · isplitl [Hq]; · iexact Hq
    isplitl [Hw] <;> iassumption
  iintro ⟨Hq, Hw, H2⟩
  rw [WP_bind]
  iapply (out1Part_run c _ mQ mWoM mOut sh o w 1 1)
  isplitl [Hq Hw H3]
  · isplitl [Hq]; · iexact Hq
    isplitl [Hw] <;> iassumption
  iintro ⟨Hq, Hw, H3⟩
  iapply Hk
  isplitl [Hq]; · iexact Hq
  isplitl [Hw]; · iexact Hw
  rw [tl_outs]
  isplitl [H0]; · iexact H0
  isplitl [H1]; · iexact H1
  isplitl [H2]; · iexact H2
  iexact H3

theorem out2_phase {Q : PUnit → sProp (MM F)} (c : Dev nD) (old : S2x512x2048.Idx → Elt F .f32) (o : S1024x1024.Idx → Elt F .bf16)
    (w : Vec F S1024x2048 .bf16) (rest : Pg F PUnit) :
    iprop((tl c mO Finset.univ fullShare o ∗ tl c mWoO Finset.univ fullShare w ∗ tl c mOut Finset.univ fullShare old)
      ∗ ((tl c mO Finset.univ fullShare o ∗ tl c mWoO Finset.univ fullShare w ∗ tl c mOut Finset.univ fullShare (out2V old o w))
        -∗ WP c rest Q))
      ⊢ WP c (do
          out2Part mO mWoO mOut 0 0
          out2Part mO mWoO mOut 0 1
          out2Part mO mWoO mOut 1 0
          out2Part mO mWoO mOut 1 1
          rest) Q := by
  rw [tl_outs (v := old), tl_outs (v := out2V old o w)]
  iintro ⟨⟨Hq, Hw, H0, H1, H2, H3⟩, Hk⟩
  rw [WP_bind]
  iapply (out2Part_run c _ mO mWoO mOut old o w 0 0)
  isplitl [Hq Hw H0]
  · isplitl [Hq]; · iexact Hq
    isplitl [Hw] <;> iassumption
  iintro ⟨Hq, Hw, H0⟩
  rw [WP_bind]
  iapply (out2Part_run c _ mO mWoO mOut old o w 0 1)
  isplitl [Hq Hw H1]
  · isplitl [Hq]; · iexact Hq
    isplitl [Hw] <;> iassumption
  iintro ⟨Hq, Hw, H1⟩
  rw [WP_bind]
  iapply (out2Part_run c _ mO mWoO mOut old o w 1 0)
  isplitl [Hq Hw H2]
  · isplitl [Hq]; · iexact Hq
    isplitl [Hw] <;> iassumption
  iintro ⟨Hq, Hw, H2⟩
  rw [WP_bind]
  iapply (out2Part_run c _ mO mWoO mOut old o w 1 1)
  isplitl [Hq Hw H3]
  · isplitl [Hq]; · iexact Hq
    isplitl [Hw] <;> iassumption
  iintro ⟨Hq, Hw, H3⟩
  iapply Hk
  isplitl [Hq]; · iexact Hq
  isplitl [Hw]; · iexact Hw
  isplitl [H0]; · iexact H0
  isplitl [H1]; · iexact H1
  isplitl [H2]; · iexact H2
  iexact H3

end Cert.KernelIdeal.Hand
-- ==== Proof.BodyEq.lean ====
/- The printed body is the body from its pieces. -/
module

public import proofs.«01_k».proof.Proof.Pieces

set_option maxRecDepth 1000000
set_option maxHeartbeats 0

namespace Cert.KernelIdeal.Hand

open Idealize.ShloMosaic Idealize.SL.Sem
open Cert.KernelIdeal Facts₀ Facts

variable {F : FTy → Type} [FloatOps F] [Facts]

/-- By computation. -/
public theorem body_eq (arg0 : Memref sig .tc .vmem S2x512x2048 .bf16) (harg0 : arg0.IsWhole) (arg1 : Memref sig .tc .vmem S2048x128
    .bf16) (harg1 : arg1.IsWhole) (arg2 : Memref sig .tc .vmem S128x1024 .bf16) (harg2 : arg2.IsWhole) (arg3 :
    Memref sig .tc .vmem S128x1024 .bf16) (harg3 : arg3.IsWhole) (arg4 : Memref sig .tc .vmem S2048x1024 .bf16)
    (harg4 : arg4.IsWhole) (arg5 : Memref sig .tc .vmem S2048x256 .bf16) (harg5 : arg5.IsWhole) (arg6 : Memref sig
    .tc .vmem S2048x32 .bf16) (harg6 : arg6.IsWhole) (arg7 : Memref sig .tc .vmem S1024x2048 .bf16) (harg7 :
    arg7.IsWhole) (arg8 : Memref sig .tc .vmem S1024x2048 .bf16) (harg8 : arg8.IsWhole) (arg9 : Memref sig .tc .vmem
    S2x512x2048 .f32) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x1024
    .bf16) (harg12 : arg12.IsWhole) (arg13 : Memref sig .tc .vmem S128x1024 .bf16) (harg13 : arg13.IsWhole) (arg14 :
    Memref sig .tc .vmem S1024x1024 .bf16) (harg14 : arg14.IsWhole) (arg15 : Memref sig .tc .vmem S1024x256 .bf16)
    (harg15 : arg15.IsWhole) (arg16 : Memref sig .tc .vmem S1024x32 .bf16) (harg16 : arg16.IsWhole) (arg17 : Memref
    sig .tc .vmem S1024x1024 .bf16) (harg17 : arg17.IsWhole) (arg18 : Memref sig .tc .vmem S1024x1024 .bf16) (harg18
    : arg18.IsWhole) (arg19 : Memref sig .tc .vmem S1024x1024 .bf16) (harg19 : arg19.IsWhole) (arg20 : DmaSems sig
    S3) (arg21 : DmaSems sig S3) (arg22 : DmaSems sig S8) (arg23 : DmaSems sig S8) :
    cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 =
    body arg0 arg1 arg2 harg2 arg3 harg3 arg4 arg5 arg6 arg7 arg8 arg9 arg10 harg10 arg11 harg11 arg12 harg12 arg13 harg13 arg14 harg14 arg15 harg15 arg16 harg16 arg17 harg17 arg18 harg18 arg19 harg19 arg20 arg21 arg22 arg23 := by
  rfl

end Cert.KernelIdeal.Hand
-- ==== Proof.BodyRun.lean ====
/- The whole body on one device. -/
module

public import proofs.«01_k».proof.Proof.Heads
public import proofs.«01_k».proof.Proof.BodyEq

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]

/-! ### The 22 cells by kind -/

theorem kinds_bij : Function.Bijective (Sum.elim sendK (Sum.elim recvK (Sum.elim osendK orecvK)) : Fin 3 ⊕ Fin 3 ⊕ Fin 8 ⊕ Fin 8 → Fin 22) := by
  decide

theorem split22 (Φ : Fin 22 → sProp (MM F)) :
    bigSep Finset.univ Φ = iprop((bigSep Finset.univ fun i => Φ (sendK i)) ∗ (bigSep Finset.univ fun i => Φ (recvK i))
      ∗ (bigSep Finset.univ fun h => Φ (osendK h)) ∗ (bigSep Finset.univ fun h => Φ (orecvK h))) := by
  rw [bigSep_univ_equiv (Equiv.ofBijective _ kinds_bij) Φ, bigSep_univ_sum, bigSep_univ_sum, bigSep_univ_sum]
  rfl

theorem bigSep3 (Φ : Fin 3 → sProp (MM F)) : bigSep Finset.univ Φ = iprop(Φ 0 ∗ Φ 1 ∗ Φ 2) := by
  rw [show (Finset.univ : Finset (Fin 3)) = {0, 1, 2} from by decide, bigSep_insert (by decide), bigSep_insert (by decide),
    bigSep_singleton]
  rfl

/-- The device whose cell `k` device `c` pays. -/
def tgt (c : Dev nD) (k : Fin 22) : Dev nD :=
  if k.val < 3 then c else if k.val < 6 then xn c else if k.val < 14 then c else yn c

variable (F) in
/-- The tokens of the copies of device `c`. -/
def toks (c : Dev nD) : sProp (MM F) := bigSep Finset.univ fun k : Fin 22 => dutyTok ER (cell (tgt c k) k) 0 false

theorem toks_eq (c : Dev nD) : toks F c = iprop((bigSep Finset.univ fun i => dutyTok ER (cell c (sendK i)) 0 false)
    ∗ (bigSep Finset.univ fun i => dutyTok ER (cell (xn c) (recvK i)) 0 false)
    ∗ (bigSep Finset.univ fun h => dutyTok ER (cell c (osendK h)) 0 false)
    ∗ (bigSep Finset.univ fun h => dutyTok ER (cell (yn c) (orecvK h)) 0 false)) := by
  unfold toks
  rw [split22]
  have h1 : ∀ i : Fin 3, tgt c (sendK i) = c := fun i => by fin_cases i <;> rfl
  have h2 : ∀ i : Fin 3, tgt c (recvK i) = xn c := fun i => by fin_cases i <;> rfl
  have h3 : ∀ h : Fin 8, tgt c (osendK h) = c := fun h => by fin_cases h <;> rfl
  have h4 : ∀ h : Fin 8, tgt c (orecvK h) = yn c := fun h => by fin_cases h <;> rfl
  simp only [h1, h2, h3, h4]

variable (ins : Dev nD → In F)

/-! ### What the body takes and gives -/

/-- The protocol's ghost state, all cells open. -/
def opened (κ : GSem nD τ sig → ℕ) (c : Dev nD) : sProp (MM F) :=
  iprop(ctx ins κ ∗ atPos ER (bar c) 0 ∅ 0 ∗ (bigSep Finset.univ fun k => atPos ER (cell c k) 0 ∅ 0) ∗ opens F c
    ∗ (dutyTok ER (bar (xn c)) 0 false ∗ reached ER (bar (xn c)) 0)
    ∗ (dutyTok ER (bar (yn c)) 0 true ∗ reached ER (bar (yn c)) 0) ∗ toks F c)

variable (F) in
/-- The credit it waits with, of the cells others pay. -/
def credIn (c : Dev nD) : sProp (MM F) :=
  iprop(cred (tallyAt (bar c) () 2) ∗ (bigSep Finset.univ fun i => cred (tallyAt (cell c (recvK i)) () (amt (recvK i))))
    ∗ bigSep Finset.univ fun h => cred (tallyAt (cell c (orecvK h)) () (amt (orecvK h))))

/-- The staged inputs. -/
def stagedIn (c : Dev nD) (I : In F) : sProp (MM F) :=
  iprop(tl c mX Finset.univ fullShare I.x ∗ tl c mWdkv Finset.univ fullShare I.wdkv ∗ tl c mWuk Finset.univ fullShare I.wuk
    ∗ tl c mWuv Finset.univ fullShare I.wuv ∗ tl c mWq Finset.univ fullShare I.wq ∗ tl c mWqr Finset.univ fullShare I.wqr
    ∗ tl c mWkr Finset.univ fullShare I.wkr ∗ tl c mWoM Finset.univ fullShare I.woM ∗ tl c mWoO Finset.univ fullShare I.woO)

variable (F) in
/-- The scratch buffers. -/
def scratch (c : Dev nD) : sProp (MM F) :=
  iprop(tlAny c mC Finset.univ ∗ tlAny c mCn Finset.univ ∗ tlAny c mWukn Finset.univ ∗ tlAny c mWuvn Finset.univ
    ∗ tlAny c mQ Finset.univ ∗ tlAny c mQr Finset.univ ∗ tlAny c mKr Finset.univ ∗ tlAny c mK Finset.univ
    ∗ tlAny c mV Finset.univ ∗ tlAny c mO Finset.univ)

def bodyPre (κ : GSem nD τ sig → ℕ) (c : Dev nD) : sProp (MM F) :=
  iprop(opened ins κ c ∗ credIn F c ∗ stagedIn c (ins c) ∗ tlAny c mOut Finset.univ ∗ scratch F c ∗ ow c (O₀ c))

def bodyPost (c : Dev nD) : sProp (MM F) :=
  iprop(semVal (bar c) 0 ∗ (bigSep Finset.univ fun k => semVal (cell c k) 0) ∗ stagedIn c (ins c)
    ∗ tl c mOut Finset.univ fullShare (oD ins c) ∗ scratch F c ∗ ow c 0)

/-- The body at this kernel's buffers. -/
def bodyC : Pg F PUnit :=
  body mX mWdkv mWuk (Memref.isWhole_whole _) mWuv (Memref.isWhole_whole _) mWq mWqr mWkr mWoM mWoO mOut
    mC (Memref.isWhole_whole _) mCn (Memref.isWhole_whole _) mWukn (Memref.isWhole_whole _) mWuvn (Memref.isWhole_whole _)
    mQ (Memref.isWhole_whole _) mQr (Memref.isWhole_whole _) mKr (Memref.isWhole_whole _) mK (Memref.isWhole_whole _)
    mV (Memref.isWhole_whole _) mO (Memref.isWhole_whole _) cc0_scratch10 cc0_scratch11 cc0_scratch12 cc0_scratch13

/-- All cells closed. -/
theorem close_all (κ : GSem nD τ sig → ℕ) (c : Dev nD) :
    iprop(ctx ins κ ∗ atPos ER (bar c) 1 ∅ 0 ∗ bigSep Finset.univ fun k => atPos ER (cell c k) 1 ∅ 0)
      ⊢ (|={Set.univ}=> iprop(semVal (bar c) 0 ∗ bigSep Finset.univ fun k => semVal (cell c k) 0) : sProp (MM F)) := by
  have hk : iprop(ctx ins κ ∗ bigSep Finset.univ fun k => atPos ER (cell c k) 1 ∅ 0)
      ⊢ (|={Set.univ}=> bigSep Finset.univ fun k => semVal (cell c k) 0 : sProp (MM F)) := by
    refine (bigSep_with_persistent (fun k _ => ?_)).trans (bigSep_fupd _ _)
    iintro ⟨#Hc, Ha⟩
    iapply (close_cell (ins := ins) (κ := κ) (cell c k))
    isplitr; · iapply (ctx_cell ins κ c k); iexact Hc
    iexact Ha
  iintro ⟨#Hc, Hb, Hk⟩
  imod (close_cell (ins := ins) (κ := κ) (bar c)) $$ [Hb] with Hb0
  · isplitr; · iapply (ctx_bar ins κ c); iexact Hc
    iexact Hb
  imod hk $$ [Hk] with Hk0
  · isplitr; · iexact Hc
    iexact Hk
  imodintro
  isplitl [Hb0]; · iexact Hb0
  iexact Hk0

/-- The share of head `h` kept and the share that comes back make the head whole. -/
theorem head_back (c : Dev nD) (h : Fin 8) :
    iprop(pay ins c (osendK h) ∗ tl c mQ (headR h).set fullShare.right (aD ins c))
      ⊢ tl c mQ (headR h).set fullShare (aD ins c) := by
  rw [pay_osend]; exact tl_half.2

theorem pair8 (Φ Ψ : Fin 8 → sProp (MM F)) :
    iprop((bigSep Finset.univ fun h => Φ h) ∗ bigSep Finset.univ fun h => Ψ h) ⊢ bigSep Finset.univ (fun h => iprop(Φ h ∗ Ψ h)) :=
  Entails.of_eq (bigSep_sep' _ _ _).symm

theorem WP_upd {c : Dev nD} {Q : PUnit → sProp (MM F)} : (|={Set.univ}=> Q ⟨⟩) ⊢ WP c (.ret ⟨⟩) Q := BI.Entails.refl _

theorem WP_deviceId {k : Dev nD → Pg F PUnit} {c : Dev nD} {Q : PUnit → sProp (MM F)} :
    WP c (Prog.lift .deviceId >>= k) Q = WP c (k c) Q :=
  wp_deviceId (defs := defs₀ (F := F)) (Γ := .empty) (Name := ℕ) (U := UU) (Lvl := ℕ) (Ix := Unit) 𝒱₀ (c : Thread nD τ) none Set.univ

theorem bodyC_run (κ : GSem nD τ sig → ℕ) (c : Dev nD) (Q : PUnit → sProp (MM F)) :
    iprop(bodyPre ins κ c ∗ (bodyPost ins c -∗ Q ⟨⟩)) ⊢ WP c bodyC Q := by
  unfold bodyC body
  rw [WP_deviceId]
  simp only [dev1_eq, dev2_eq, dev3_eq, dev4_eq, dev5_eq, dev6_eq, dev7_eq, dev8_eq, dev9_eq, dev10_eq, dev11_eq, dev12_eq, dev13_eq]
  unfold bodyPre opened credIn stagedIn scratch
  rw [toks_eq, split22 (fun k => (atPos ER (cell c k) 0 ∅ 0 : sProp (MM F)))]
  simp only [bigSep3]
  iintro ⟨⟨⟨#Hc, Hat, ⟨⟨As0, As1, As2⟩, ⟨Ar0, Ar1, Ar2⟩, Aos, Aor⟩, #Ho, Hbx, Hby, ⟨Ts0, Ts1, Ts2⟩, ⟨Tr0, Tr1, Tr2⟩, Tos, Tor⟩,
    ⟨Cb, ⟨Cr0, Cr1, Cr2⟩, Cor⟩, ⟨Ix, Iwdkv, Iwuk, Iwuv, Iwq, Iwqr, Iwkr, IwoM, IwoO⟩, Hout,
    ⟨Sc, Scn, Swukn, Swuvn, Sq, Sqr, Skr, Sk, Sv, So⟩, HO⟩, HQ⟩
  -- the barrier
  iapply (bar_phase (ins := ins) (κ := κ) c)
  isplitl [Hat Hbx Hby Cb Scn Swukn Swuvn So HO]
  · unfold barPre
    isplitr; · iexact Hc
    isplitr; · iexact Ho
    isplitl [HO]; · iexact HO
    isplitl [Hbx]; · iexact Hbx
    isplitl [Hby]; · iexact Hby
    isplitl [Cb]; · iexact Cb
    isplitl [Hat]; · iexact Hat
    isplitl [Scn]; · iexact Scn
    isplitl [Swukn]; · iexact Swukn
    isplitl [Swuvn]; · iexact Swuvn
    iexact So
  unfold barPost barXPay barYPay
  iintro ⟨HO, Hat, ⟨Dcn, Dwukn, Dwuvn, Rx0, Rx1, Rx2⟩, Hy⟩
  -- the latent
  iapply (c_phase c (ins c))
  isplitl [Ix Iwdkv Sc]
  · isplitl [Ix]; · iexact Ix
    isplitl [Iwdkv]; · iexact Iwdkv
    iexact Sc
  iintro ⟨Ix, Iwdkv, Sc⟩
  -- the three copies
  iapply (send_phase (ins := ins) (κ := κ) c 0 [1, 2] mC (Memref.isWhole_whole _) mCn (Memref.isWhole_whole _) rfl (cV (ins c))
    (BI.Entails.refl _) (by rw [show pay ins (xn c) (recvK 0) = tl (xn c) mCn Finset.univ fullShare (cV (ins (xn (xn c)))) from rfl, xn_xn]))
  isplitl [HO Sc Ts0 Tr0 Rx0 Dcn]
  · unfold sendRes
    isplitr; · iexact Hc
    isplitl [HO]; · iexact HO
    isplitl [Sc]; · iexact Sc
    isplitl [Ts0]
    · isplitl [Ts0]; · iexact Ts0
      iapply (opens_at c (sendK 0)); iexact Ho
    isplitl [Tr0 Rx0]
    · isplitl [Tr0]; · iexact Tr0
      iexact Rx0
    iexact Dcn
  iintro ⟨HO, Cs0⟩
  iapply (send_phase (ins := ins) (κ := κ) c 1 [2] mWuk (Memref.isWhole_whole _) mWukn (Memref.isWhole_whole _) rfl (ins c).wuk
    (BI.Entails.refl _) (by rw [show pay ins (xn c) (recvK 1) = tl (xn c) mWukn Finset.univ fullShare (ins (xn (xn c))).wuk from rfl, xn_xn]))
  isplitl [HO Iwuk Ts1 Tr1 Rx1 Dwukn]
  · unfold sendRes
    isplitr; · iexact Hc
    isplitl [HO]; · iexact HO
    isplitl [Iwuk]; · iexact Iwuk
    isplitl [Ts1]
    · isplitl [Ts1]; · iexact Ts1
      iapply (opens_at c (sendK 1)); iexact Ho
    isplitl [Tr1 Rx1]
    · isplitl [Tr1]; · iexact Tr1
      iexact Rx1
    iexact Dwukn
  iintro ⟨HO, Cs1⟩
  iapply (send_phase (ins := ins) (κ := κ) c 2 [] mWuv (Memref.isWhole_whole _) mWuvn (Memref.isWhole_whole _) rfl (ins c).wuv
    (BI.Entails.refl _) (by rw [show pay ins (xn c) (recvK 2) = tl (xn c) mWuvn Finset.univ fullShare (ins (xn (xn c))).wuv from rfl, xn_xn]))
  isplitl [HO Iwuv Ts2 Tr2 Rx2 Dwuvn]
  · unfold sendRes
    isplitr; · iexact Hc
    isplitl [HO]; · iexact HO
    isplitl [Iwuv]; · iexact Iwuv
    isplitl [Ts2]
    · isplitl [Ts2]; · iexact Ts2
      iapply (opens_at c (sendK 2)); iexact Ho
    isplitl [Tr2 Rx2]
    · isplitl [Tr2]; · iexact Tr2
      iexact Rx2
    iexact Dwuvn
  iintro ⟨HO, Cs2⟩
  -- the queries
  iapply (q_phase c (ins c))
  unfold qIns
  isplitl [Ix Iwq Iwqr Iwkr Sq Sqr Skr]
  · isplitl [Ix Iwq Iwqr Iwkr]
    · isplitl [Ix]; · iexact Ix
      isplitl [Iwq]; · iexact Iwq
      isplitl [Iwqr]; · iexact Iwqr
      iexact Iwkr
    isplitl [Sq]; · iexact Sq
    isplitl [Sqr]; · iexact Sqr
    iexact Skr
  iintro ⟨⟨Ix, Iwq, Iwqr, Iwkr⟩, Sq, Sqr, Skr⟩
  -- the copies waited for
  iapply (wait_phase (ins := ins) (κ := κ) c 0 mC (Memref.isWhole_whole _) mCn (Memref.isWhole_whole _) rfl rfl)
  isplitl [HO Cs0 As0 Cr0 Ar0]
  · isplitr; · iexact Hc
    isplitl [HO]; · iexact HO
    isplitl [Cs0 As0]
    · isplitl [Cs0]; · iexact Cs0
      iexact As0
    isplitl [Cr0]; · iexact Cr0
    iexact Ar0
  iintro ⟨HO, ⟨As0, Sc⟩, Ar0, Scn⟩
  iapply (wait_phase (ins := ins) (κ := κ) c 1 mWuk (Memref.isWhole_whole _) mWukn (Memref.isWhole_whole _) rfl rfl)
  isplitl [HO Cs1 As1 Cr1 Ar1]
  · isplitr; · iexact Hc
    isplitl [HO]; · iexact HO
    isplitl [Cs1 As1]
    · isplitl [Cs1]; · iexact Cs1
      iexact As1
    isplitl [Cr1]; · iexact Cr1
    iexact Ar1
  iintro ⟨HO, ⟨As1, Iwuk⟩, Ar1, Swukn⟩
  iapply (wait_phase (ins := ins) (κ := κ) c 2 mWuv (Memref.isWhole_whole _) mWuvn (Memref.isWhole_whole _) rfl rfl)
  isplitl [HO Cs2 As2 Cr2 Ar2]
  · isplitr; · iexact Hc
    isplitl [HO]; · iexact HO
    isplitl [Cs2 As2]
    · isplitl [Cs2]; · iexact Cs2
      iexact As2
    isplitl [Cr2]; · iexact Cr2
    iexact Ar2
  iintro ⟨HO, ⟨As2, Iwuv⟩, Ar2, Swuvn⟩
  -- the keys and values
  ihave Sc := (Entails.of_eq (show pay ins c (sendK 0) = tl c mC Finset.univ fullShare (cV (ins c)) from rfl)) $$ Sc
  ihave Scn := (Entails.of_eq (show pay ins c (recvK 0) = tl c mCn Finset.univ fullShare (cV (ins (xn c))) from rfl)) $$ Scn
  ihave Iwuk := (Entails.of_eq (show pay ins c (sendK 1) = tl c mWuk Finset.univ fullShare (ins c).wuk from rfl)) $$ Iwuk
  ihave Swukn := (Entails.of_eq (show pay ins c (recvK 1) = tl c mWukn Finset.univ fullShare (ins (xn c)).wuk from rfl)) $$ Swukn
  ihave Iwuv := (Entails.of_eq (show pay ins c (sendK 2) = tl c mWuv Finset.univ fullShare (ins c).wuv from rfl)) $$ Iwuv
  ihave Swuvn := (Entails.of_eq (show pay ins c (recvK 2) = tl c mWuvn Finset.univ fullShare (ins (xn c)).wuv from rfl)) $$ Swuvn
  iapply (kv_phase c (ins c) (ins (xn c)))
  unfold kvIns
  isplitl [Sc Scn Iwuk Swukn Iwuv Swuvn Sk Sv]
  · isplitl [Sc Scn Iwuk Swukn Iwuv Swuvn]
    · isplitl [Sc]; · iexact Sc
      isplitl [Scn]; · iexact Scn
      isplitl [Iwuk]; · iexact Iwuk
      isplitl [Swukn]; · iexact Swukn
      isplitl [Iwuv]; · iexact Iwuv
      iexact Swuvn
    isplitl [Sk]; · iexact Sk
    iexact Sv
  iintro ⟨⟨Sc, Scn, Iwuk, Swukn, Iwuv, Swuvn⟩, Sk, Sv⟩
  -- the heads
  ihave Hres : (bigSep Finset.univ fun h => headRes c h) $$ [Tos Tor Hy]
  · iapply (bigSep_with_persistent (R := opens F c) (Φ := fun h : Fin 8 => iprop(dutyTok ER (cell c (osendK h)) 0 false
      ∗ (dutyTok ER (cell (yn c) (orecvK h)) 0 false ∗ (tlAny (yn c) mO (headR h).set ∗ reached ER (cell (yn c) (orecvK h)) 0)))) (fun h _ => by
        unfold headRes
        iintro ⟨#Ho, H1, H2⟩
        isplitl [H1]
        · isplitl [H1]; · iexact H1
          iapply (opens_at c (osendK h)); iexact Ho
        iexact H2))
    isplitr; · iexact Ho
    iapply (pair8 _ _)
    isplitl [Tos]; · iexact Tos
    iapply (pair8 _ _)
    isplitl [Tor]; · iexact Tor
    iexact Hy
  iapply (heads_phase (ins := ins) (κ := κ) c)
  unfold atHeld atIns
  isplitl [Sk Sv Sqr Skr HO Hres Sq]
  · isplitr; · iexact Hc
    isplitl [Sk Sv Sqr Skr]
    · isplitl [Skr]; · iexact Skr
      isplitl [Sqr]; · iexact Sqr
      isplitl [Sk]; · iexact Sk
      iexact Sv
    isplitl [HO]; · iexact HO
    isplitl [Hres]; · iexact Hres
    iexact Sq
  unfold headDone
  rw [bigSep_sep']
  iintro ⟨⟨Skr, Sqr, Sk, Sv⟩, HO, Cos, Sq⟩
  -- the output from the own heads
  ihave Sq := (Entails.of_eq (tl_heads (c := c) (m := mQ) (q := fullShare.right) (v := aD ins c)).symm) $$ Sq
  iapply (out1_phase c fullShare.right (aD ins c) (ins c).woM)
  isplitl [Sq IwoM Hout]
  · isplitl [Sq]; · iexact Sq
    isplitl [IwoM]; · iexact IwoM
    iexact Hout
  iintro ⟨Sq, IwoM, Hout⟩
  -- the neighbour's heads
  iapply (waits_phase (ins := ins) (κ := κ) c orecvK (fun h => waitRecv mQ (Memref.isWhole_whole _) mO (Memref.isWhole_whole _) cc0_scratch13 h)
    (fun h r => recv_step c (Memref.isWhole_whole _) (Memref.isWhole_whole _) h r))
  isplitl [HO Cor Aor]
  · isplitr; · iexact Hc
    isplitl [HO]; · iexact HO
    unfold hWait
    rw [bigSep_sep']
    isplitl [Cor]; · iexact Cor
    iexact Aor
  unfold hGot
  rw [bigSep_sep']
  iintro ⟨HO, Aor, So⟩
  -- the output with the neighbour's heads
  iapply (out2_phase c (out1V (aD ins c) (ins c).woM) (aD ins (yn c)) (ins c).woO)
  isplitl [So IwoO Hout]
  · isplitl [So]
    · rw [tl_heads]
      iapply (Entails.of_eq (bigSep_congr fun h _ => pay_orecv ins c h)) $$ So
    isplitl [IwoO]; · iexact IwoO
    iexact Hout
  iintro ⟨So, IwoO, Hout⟩
  -- the own copies
  rw [show (do
        waitSend mQ (Memref.isWhole_whole _) mO (Memref.isWhole_whole _) cc0_scratch12 0
        waitSend mQ (Memref.isWhole_whole _) mO (Memref.isWhole_whole _) cc0_scratch12 1
        waitSend mQ (Memref.isWhole_whole _) mO (Memref.isWhole_whole _) cc0_scratch12 2
        waitSend mQ (Memref.isWhole_whole _) mO (Memref.isWhole_whole _) cc0_scratch12 3
        waitSend mQ (Memref.isWhole_whole _) mO (Memref.isWhole_whole _) cc0_scratch12 4
        waitSend mQ (Memref.isWhole_whole _) mO (Memref.isWhole_whole _) cc0_scratch12 5
        waitSend mQ (Memref.isWhole_whole _) mO (Memref.isWhole_whole _) cc0_scratch12 6
        waitSend mQ (Memref.isWhole_whole _) mO (Memref.isWhole_whole _) cc0_scratch12 7 : Pg F PUnit) = (do
        waitSend mQ (Memref.isWhole_whole _) mO (Memref.isWhole_whole _) cc0_scratch12 0
        waitSend mQ (Memref.isWhole_whole _) mO (Memref.isWhole_whole _) cc0_scratch12 1
        waitSend mQ (Memref.isWhole_whole _) mO (Memref.isWhole_whole _) cc0_scratch12 2
        waitSend mQ (Memref.isWhole_whole _) mO (Memref.isWhole_whole _) cc0_scratch12 3
        waitSend mQ (Memref.isWhole_whole _) mO (Memref.isWhole_whole _) cc0_scratch12 4
        waitSend mQ (Memref.isWhole_whole _) mO (Memref.isWhole_whole _) cc0_scratch12 5
        waitSend mQ (Memref.isWhole_whole _) mO (Memref.isWhole_whole _) cc0_scratch12 6
        waitSend mQ (Memref.isWhole_whole _) mO (Memref.isWhole_whole _) cc0_scratch12 7
        .ret ⟨⟩) from rfl]
  iapply (waits_phase (ins := ins) (κ := κ) c osendK (fun h => waitSend mQ (Memref.isWhole_whole _) mO (Memref.isWhole_whole _) cc0_scratch12 h)
    (fun h r => sent_step c (Memref.isWhole_whole _) (Memref.isWhole_whole _) h r))
  isplitl [HO Cos Aos]
  · isplitr; · iexact Hc
    isplitl [HO]; · iexact HO
    unfold hWait
    rw [bigSep_sep']
    isplitl [Cos]; · iexact Cos
    iexact Aos
  unfold hGot
  rw [bigSep_sep']
  iintro ⟨HO, Aos, Pq⟩
  ihave Sq : (tl c mQ Finset.univ fullShare (aD ins c)) $$ [Pq Sq]
  · ihave Sq := (Entails.of_eq (tl_heads (c := c) (m := mQ) (q := fullShare.right) (v := aD ins c))) $$ Sq
    iapply (Entails.of_eq (tl_heads (c := c) (m := mQ) (q := fullShare) (v := aD ins c)).symm)
    iapply (show (bigSep Finset.univ fun h => iprop(pay ins c (osendK h) ∗ tl c mQ (headR h).set fullShare.right (aD ins c)))
      ⊢ bigSep Finset.univ fun h => tl c mQ (headR h).set fullShare (aD ins c) from bigSep_mono (fun h _ => head_back ins c h))
    iapply (pair8 _ _)
    isplitl [Pq]; · iexact Pq
    iexact Sq
  -- the end
  iapply WP_upd
  imod (close_all ins κ c) $$ [Hat As0 As1 As2 Ar0 Ar1 Ar2 Aos Aor] with ⟨Hb0, Hk0⟩
  · isplitr; · iexact Hc
    isplitl [Hat]; · iexact Hat
    rw [split22 (fun k => (atPos ER (cell c k) 1 ∅ 0 : sProp (MM F)))]
    isplitl [As0 As1 As2]
    · rw [bigSep3]
      isplitl [As0]; · iexact As0
      isplitl [As1]; · iexact As1
      iexact As2
    isplitl [Ar0 Ar1 Ar2]
    · rw [bigSep3]
      isplitl [Ar0]; · iexact Ar0
      isplitl [Ar1]; · iexact Ar1
      iexact Ar2
    isplitl [Aos]; · iexact Aos
    iexact Aor
  imodintro
  iapply HQ
  unfold bodyPost stagedIn scratch
  isplitl [Hb0]; · iexact Hb0
  isplitl [Hk0]; · iexact Hk0
  isplitl [Ix Iwdkv Iwuk Iwuv Iwq Iwqr Iwkr IwoM IwoO]
  · isplitl [Ix]; · iexact Ix
    isplitl [Iwdkv]; · iexact Iwdkv
    isplitl [Iwuk]; · iexact Iwuk
    isplitl [Iwuv]; · iexact Iwuv
    isplitl [Iwq]; · iexact Iwq
    isplitl [Iwqr]; · iexact Iwqr
    isplitl [Iwkr]; · iexact Iwkr
    isplitl [IwoM]; · iexact IwoM
    iexact IwoO
  isplitl [Hout]; · iexact Hout
  isplitr [HO]
  · isplitl [Sc]; · iapply tl_any; iexact Sc
    isplitl [Scn]; · iapply tl_any; iexact Scn
    isplitl [Swukn]; · iapply tl_any; iexact Swukn
    isplitl [Swuvn]; · iapply tl_any; iexact Swuvn
    isplitl [Sq]; · iapply tl_any; iexact Sq
    isplitl [Sqr]; · iapply tl_any; iexact Sqr
    isplitl [Skr]; · iapply tl_any; iexact Skr
    isplitl [Sk]; · iapply tl_any; iexact Sk
    isplitl [Sv]; · iapply tl_any; iexact Sv
    iapply tl_any; iexact So
  iexact HO

end Cert.KernelIdeal.Hand
-- ==== Proof.Region.lean ====
/- The kernel's one region: what its windows stage, its invariant, and its body's obligation. -/
module

public import proofs.«01_k».proof.Proof.BodyRun
public import proofs.«01_k».proof.Proof.Gen.KernelIdeal.Regions
public import proofs.«01_k».proof.Proof.Gen.KernelIdeal.Points
public import Idealize.ShloMosaic.Lib.Pipeline.ValueKit
public import Idealize.ShloMosaic.Lib.Pipeline.RegionTalk

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ)

/-- What the host leaves for device `c`'s kernel. -/
def insM (c : Dev nD) : In F where
  x := V1 m c main_v37
  wdkv := V1 m c main_v38
  wuk := V1 m c main_v39
  wuv := V1 m c main_v40
  wq := V1 m c main_v41
  wqr := V1 m c main_v42
  wkr := V1 m c main_v43
  woM := V1 m c main_v44
  woO := V1 m c main_v45

/-- The region's result on device `c`. -/
def outM (c : Dev nD) : Vec F S2x512x2048 .f32 := oD (insM m) c

/-- The buffers after the region. -/
def Vout (c : Dev nD) : Valuation τ sig (Elt F) := Function.update (V1 m c) main_v46 (outM m c)

/-- What enters the body's invariant beside the scratch buffers. -/
def Xk (c : Dev nD) : sProp (MM F) := iprop((∃ κ, opened (insM m) κ c) ∗ credIn F c)

/-- The region's invariant before its one point, and after. -/
def dat0 (c : Dev nD) : Dat τ (Elt F) Unit ℕ UU ℕ cfg0 c where
  A w := V1 m c (Proc.devRef .tc (Pipeline.arrRef spec0 w))
  after w _ := match w with
    | ⟨0, _⟩ => (insM m c).x
    | ⟨1, _⟩ => (insM m c).wdkv
    | ⟨2, _⟩ => (insM m c).wuk
    | ⟨3, _⟩ => (insM m c).wuv
    | ⟨4, _⟩ => (insM m c).wq
    | ⟨5, _⟩ => (insM m c).wqr
    | ⟨6, _⟩ => (insM m c).wkr
    | ⟨7, _⟩ => (insM m c).woM
    | ⟨8, _⟩ => (insM m c).woO
    | ⟨9, _⟩ => outM m c
  Φ t := if t.val = 0 then iprop(Xk m c ∗ scratch F c ∗ ∃ r, prngReg c r)
    else iprop(semVal (bar c) 0 ∗ (bigSep Finset.univ fun k => semVal (cell c k) 0) ∗ scratch F c ∗ ∃ r, prngReg c r)
  q _ := fullShare
  owed t := if t.val = 0 then O₀ c else 0

def pdats : (p : Fin 1) → (c : Dev nD) → Dat τ (Elt F) Unit ℕ UU ℕ (cfgs p) c
  | 0 => dat0 m

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (ow c O : sProp (MM F)) ⊢ (dat.owesAt () t : sProp (MM F)) := by
  unfold ow Dat.owesAt Pipeline.owesWithin Dat.bound; rw [h0, hr]
  iintro ⟨%W, HO⟩
  iexists W
  isplitr
  · ipureintro; exact fun _ _ => Or.inl trivial
  iexact HO

theorem owes_out {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp (MM F)) ⊢ (ow c O : sProp (MM F)) := by
  unfold ow Dat.owesAt Pipeline.owesWithin; rw [h0]
  iintro ⟨%W, -, HO⟩
  iexists W
  iexact HO

/-! ### What the fetches stage -/

theorem before0 (c : Dev nD) (d) : (dat0 m c).before 0 t0_0 d = (insM m c).x := by
  unfold Dat.before; rw [if_pos (fetch0_0 _)]
  funext j
  show V1 m c main_v37 _ = V1 m c main_v37 _
  congr 1
  funext a; apply Fin.ext; blk_simp
  show 0 * _ + (j a).val = (j a).val
  rw [Nat.zero_mul, Nat.zero_add]
theorem before1 (c : Dev nD) (d) : (dat0 m c).before 1 t0_0 d = (insM m c).wdkv := by
  unfold Dat.before; rw [if_pos (fetch0_1 _)]
  funext j
  show V1 m c main_v38 _ = V1 m c main_v38 _
  congr 1
  funext a; apply Fin.ext; blk_simp
  show 0 * _ + (j a).val = (j a).val
  rw [Nat.zero_mul, Nat.zero_add]
theorem before2 (c : Dev nD) (d) : (dat0 m c).before 2 t0_0 d = (insM m c).wuk := by
  unfold Dat.before; rw [if_pos (fetch0_2 _)]
  funext j
  show V1 m c main_v39 _ = V1 m c main_v39 _
  congr 1
  funext a; apply Fin.ext; blk_simp
  show 0 * _ + (j a).val = (j a).val
  rw [Nat.zero_mul, Nat.zero_add]
theorem before3 (c : Dev nD) (d) : (dat0 m c).before 3 t0_0 d = (insM m c).wuv := by
  unfold Dat.before; rw [if_pos (fetch0_3 _)]
  funext j
  show V1 m c main_v40 _ = V1 m c main_v40 _
  congr 1
  funext a; apply Fin.ext; blk_simp
  show 0 * _ + (j a).val = (j a).val
  rw [Nat.zero_mul, Nat.zero_add]
theorem before4 (c : Dev nD) (d) : (dat0 m c).before 4 t0_0 d = (insM m c).wq := by
  unfold Dat.before; rw [if_pos (fetch0_4 _)]
  funext j
  show V1 m c main_v41 _ = V1 m c main_v41 _
  congr 1
  funext a; apply Fin.ext; blk_simp
  show 0 * _ + (j a).val = (j a).val
  rw [Nat.zero_mul, Nat.zero_add]
theorem before5 (c : Dev nD) (d) : (dat0 m c).before 5 t0_0 d = (insM m c).wqr := by
  unfold Dat.before; rw [if_pos (fetch0_5 _)]
  funext j
  show V1 m c main_v42 _ = V1 m c main_v42 _
  congr 1
  funext a; apply Fin.ext; blk_simp
  show 0 * _ + (j a).val = (j a).val
  rw [Nat.zero_mul, Nat.zero_add]
theorem before6 (c : Dev nD) (d) : (dat0 m c).before 6 t0_0 d = (insM m c).wkr := by
  unfold Dat.before; rw [if_pos (fetch0_6 _)]
  funext j
  show V1 m c main_v43 _ = V1 m c main_v43 _
  congr 1
  funext a; apply Fin.ext; blk_simp
  show 0 * _ + (j a).val = (j a).val
  rw [Nat.zero_mul, Nat.zero_add]
theorem before7 (c : Dev nD) (d) : (dat0 m c).before 7 t0_0 d = (insM m c).woM := by
  unfold Dat.before; rw [if_pos (fetch0_7 _)]
  funext j
  show V1 m c main_v44 _ = V1 m c main_v44 _
  congr 1
  funext a; apply Fin.ext; blk_simp
  show 0 * _ + (j a).val = (j a).val
  rw [Nat.zero_mul, Nat.zero_add]
theorem before8 (c : Dev nD) (d) : (dat0 m c).before 8 t0_0 d = (insM m c).woO := by
  unfold Dat.before; rw [if_pos (fetch0_8 _)]
  funext j
  show V1 m c main_v45 _ = V1 m c main_v45 _
  congr 1
  funext a; apply Fin.ext; blk_simp
  show 0 * _ + (j a).val = (j a).val
  rw [Nat.zero_mul, Nat.zero_add]

theorem Vout_of (c : Dev nD) (r : Ref sig .tc) (h : r ≠ main_v46) : Vout m c r = V1 m c r := by
  unfold Vout
  exact Function.update_of_ne (StableHlo.devRef_ne_of_ne h : (Proc.devRef .tc r : DevRef τ sig) ≠ Proc.devRef .tc main_v46) _ _
theorem Vout_out (c : Dev nD) : Vout m c main_v46 = outM m c := by
  unfold Vout
  exact Function.update_self (Proc.devRef .tc main_v46 : DevRef τ sig) _ _

theorem isOut_in : ∀ w : Fin 10, w ≠ 9 → (cfg0.win w).isOut = false := by decide
theorem arr_ne : ∀ w : Fin 10, w ≠ 9 → Pipeline.arrRef spec0 w ≠ main_v46 := by decide

theorem arr_in (c : Dev nD) (w : Fin 10) (hw : w ≠ 9) :
    (dat0 m c).arrAt w cfg0.N = Vout m c (Proc.devRef .tc (Pipeline.arrRef spec0 w)) :=
  ((dat0 m c).arrAt_in w (isOut_in w hw) _).trans (Vout_of m c (Pipeline.arrRef spec0 w) (arr_ne w hw)).symm

theorem arr_out (c : Dev nD) : (dat0 m c).arrAt 9 cfg0.N = Vout m c main_v46 := by
  rw [Vout_out]
  refine (dat0 m c).arrAt_eq_of_after_last 9 t0_0 (by decide +kernel) (outM m c) fun j => ?_
  show outM m c j = outM m c _
  congr 1

/-! ### The body's obligation -/

/-- A staging buffer as the pipeline holds it and as the body does. -/
theorem owns_tl {s : Shape} {e : EltTy} (c : Dev nD) (M : Memref sig .tc .vmem s e) (q : PosShare TreeShare) (X : s.Idx → Elt F e) :
    (owns (c : Thread nD τ) M q X : sProp (MM F)) ⊢ tl c M Finset.univ q X := by
  unfold owns
  iintro ⟨%f, %hf, H⟩
  iapply (tl_intro (m := M) (P := Finset.univ) (f := f) (v := X) fun x _ => congrFun hf x)
  iexact H

theorem tl_owns {s : Shape} {e : EltTy} (c : Dev nD) (M : Memref sig .tc .vmem s e) (q : PosShare TreeShare) (X : s.Idx → Elt F e) :
    tl c M Finset.univ q X ⊢ (owns (c : Thread nD τ) M q X : sProp (MM F)) := by
  unfold owns tl
  iintro ⟨%f, %hf, H⟩
  iexists f
  isplitr
  · ipureintro; exact funext fun x => hf x (Finset.mem_univ x)
  iexact H

/-- What the body takes, from the pipeline's conjunct of window `w`. -/
theorem stage_in {s : Shape} {e : EltTy} (c : Dev nD) (M : Memref sig .tc .vmem s e) (Y : (s.Idx → Elt F e) → (s.Idx → Elt F e))
    (X : s.Idx → Elt F e) (h : ∀ d, Y d = X) :
    (iprop(∃ d, owns (c : Thread nD τ) M fullShare (Y d)) : sProp (MM F)) ⊢ tl c M Finset.univ fullShare X := by
  iintro ⟨%d, H⟩
  rw [h d]
  iapply (owns_tl c M fullShare X) $$ H

theorem stage_any {s : Shape} {e : EltTy} (c : Dev nD) (M : Memref sig .tc .vmem s e) (Y : (s.Idx → Elt F e) → (s.Idx → Elt F e)) :
    (iprop(∃ d, owns (c : Thread nD τ) M fullShare (Y d)) : sProp (MM F)) ⊢ tlAny c M Finset.univ := by
  unfold tlAny
  iintro ⟨%d, H⟩
  iexists (Y d)
  iapply (owns_tl c M fullShare (Y d)) $$ H

/-- The kernel's body as the pipeline calls it. -/
theorem call_run (κ : GSem nD τ sig → ℕ) (c : Dev nD) (Q : PUnit → sProp (MM F)) :
    iprop(bodyPre (insM m) κ c ∗ (bodyPost (insM m) c -∗ Q ⟨⟩)) ⊢ WP c (bodyAt0 t0_0) Q := by
  refine (bodyC_run (insM m) κ c Q).trans (Entails.of_eq ?_)
  exact congrArg (fun p => WP c p Q) (body_eq ..).symm

set_option maxRecDepth 4000 in
set_option maxHeartbeats 4000000 in
theorem body_obligation (c : Dev nD) : BodyObligation (dat0 m c) (defs₀ (F := F)) 𝒱₀ () Set.univ := fun t => by
  obtain rfl := fin_N0 t
  rw [bigSep_W0, bigSep_W0]
  rw [show (dat0 m c).Φ t0_0.castSucc = iprop(Xk m c ∗ scratch F c ∗ ∃ r, prngReg c r) from rfl,
    show (dat0 m c).Φ t0_0.succ = iprop(semVal (bar c) 0 ∗ (bigSep Finset.univ fun k => semVal (cell c k) 0) ∗ scratch F c
      ∗ ∃ r, prngReg c r) from rfl]
  unfold Xk
  iintro ⟨⟨⟨⟨%κ, Hg⟩, Hcr⟩, Hs, Hp⟩, HO, H0, H1, H2, H3, H4, H5, H6, H7, H8, H9⟩
  iapply (call_run m κ c _)
  isplitl [Hg Hcr Hs HO H0 H1 H2 H3 H4 H5 H6 H7 H8 H9]
  · unfold bodyPre stagedIn
    isplitl [Hg]; · iexact Hg
    isplitl [Hcr]; · iexact Hcr
    isplitl [H0 H1 H2 H3 H4 H5 H6 H7 H8]
    · isplitl [H0]; · iapply (stage_in c mX _ (insM m c).x (before0 m c)) $$ H0
      isplitl [H1]; · iapply (stage_in c mWdkv _ (insM m c).wdkv (before1 m c)) $$ H1
      isplitl [H2]; · iapply (stage_in c mWuk _ (insM m c).wuk (before2 m c)) $$ H2
      isplitl [H3]; · iapply (stage_in c mWuv _ (insM m c).wuv (before3 m c)) $$ H3
      isplitl [H4]; · iapply (stage_in c mWq _ (insM m c).wq (before4 m c)) $$ H4
      isplitl [H5]; · iapply (stage_in c mWqr _ (insM m c).wqr (before5 m c)) $$ H5
      isplitl [H6]; · iapply (stage_in c mWkr _ (insM m c).wkr (before6 m c)) $$ H6
      isplitl [H7]; · iapply (stage_in c mWoM _ (insM m c).woM (before7 m c)) $$ H7
      iapply (stage_in c mWoO _ (insM m c).woO (before8 m c)) $$ H8
    isplitl [H9]; · iapply (stage_any c mOut _) $$ H9
    isplitl [Hs]; · iexact Hs
    iapply (owes_out (dat0 m c) _ (O₀ c) (owed_first m c)) $$ HO
  unfold bodyPost stagedIn
  iintro ⟨Hb, Hk, ⟨H0, H1, H2, H3, H4, H5, H6, H7, H8⟩, H9, Hs, HO⟩
  isplitl [Hb Hk Hs Hp]
  · isplitl [Hb]; · iexact Hb
    isplitl [Hk]; · iexact Hk
    isplitl [Hs]; · iexact Hs
    iexact Hp
  isplitl [HO]; · iapply (owes_in (dat0 m c) t0_0.succ 0 (owed_last m c) rfl) $$ HO
  isplitl [H0]; · iapply (tl_owns c mX fullShare (insM m c).x) $$ H0
  isplitl [H1]; · iapply (tl_owns c mWdkv fullShare (insM m c).wdkv) $$ H1
  isplitl [H2]; · iapply (tl_owns c mWuk fullShare (insM m c).wuk) $$ H2
  isplitl [H3]; · iapply (tl_owns c mWuv fullShare (insM m c).wuv) $$ H3
  isplitl [H4]; · iapply (tl_owns c mWq fullShare (insM m c).wq) $$ H4
  isplitl [H5]; · iapply (tl_owns c mWqr fullShare (insM m c).wqr) $$ H5
  isplitl [H6]; · iapply (tl_owns c mWkr fullShare (insM m c).wkr) $$ H6
  isplitl [H7]; · iapply (tl_owns c mWoM fullShare (insM m c).woM) $$ H7
  isplitl [H8]; · iapply (tl_owns c mWoO fullShare (insM m c).woO) $$ H8
  iapply (tl_owns c mOut fullShare (oD (insM m) c)) $$ H9

end Cert.KernelIdeal.Hand

end
-- ==== Proof.Ghost.lean ====
/- The exchange's ghost state at launch: the barrier cells running, the copies' cells not yet open, every token with
   the device that pays its duty, and the credit for what the neighbours owe. -/
module

public import proofs.«01_k».proof.Proof.BodyRun

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts] (ins : Dev nD → In F)

/-! ### Cells and tokens -/

theorem cell_ne_bar (c d : Dev nD) (k : Fin 22) : cell c k ≠ bar d := fun h => by
  have h' := congrArg Prod.snd h
  simp only [reduceCtorEq] at h'
theorem cell_eq {c d : Dev nD} {k l : Fin 22} (h : cell c k = cell d l) : c = d ∧ k = l :=
  ⟨congrArg (fun g : GSem nD τ sig => g.1.1) h, enc_inj (SemLoc.dma.inj (congrArg Prod.snd h))⟩
theorem bar_eq {c d : Dev nD} (h : bar c = bar d) : c = d := congrArg (fun g : GSem nD τ sig => g.1.1) h

def barEmb : Dev nD ↪ GSem nD τ sig := ⟨fun c => bar c, fun _ _ h => bar_eq h⟩
def cellEmb : Dev nD × Fin 22 ↪ GSem nD τ sig :=
  ⟨fun p => cell p.1 p.2, fun _ _ h => Prod.ext (cell_eq h).1 (cell_eq h).2⟩

/-- The barrier cells, running from launch. -/
abbrev barCells : Finset (GSem nD τ sig) := Finset.univ.map barEmb
/-- The copies' cells, opened at the kernel's entry. -/
abbrev dmaCells : Finset (GSem nD τ sig) := Finset.univ.map cellEmb

theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact cell_ne_bar _ _ _ h

/-- A duty: one of the barrier's two, or a cell's one. -/
def tokOf (p : Dev nD × (Bool ⊕ Fin 22)) : GSem nD τ sig × ℕ × Bool :=
  match p.2 with
  | .inl b => (bar p.1, 0, b)
  | .inr k => (cell p.1 k, 0, false)

theorem tokOf_inj : Function.Injective tokOf := by
  rintro ⟨c, b | k⟩ ⟨d, b' | k'⟩ h
  · have h1 : c = d := bar_eq (congrArg Prod.fst h)
    have h2 : b = b' := congrArg (fun t : GSem nD τ sig × ℕ × Bool => t.2.2) h
    rw [h1, h2]
  · exact absurd (congrArg Prod.fst h).symm (cell_ne_bar _ _ _)
  · exact absurd (congrArg Prod.fst h) (cell_ne_bar _ _ _)
  · have h1 : c = d := (cell_eq (congrArg Prod.fst h)).1
    have h2 : k = k' := (cell_eq (congrArg Prod.fst h)).2
    rw [h1, h2]

/-- Every duty's token. -/
def allToks : Finset (GSem nD τ sig × ℕ × Bool) := Finset.univ.map ⟨tokOf, tokOf_inj⟩

/-! ### What a device keeps until the kernel runs -/

/-- The ghost state of device `c` before its own cells are open. -/
def ghost (κ : GSem nD τ sig → ℕ) (c : Dev nD) : sProp (MM F) :=
  iprop((bigSep Finset.univ fun p : Dev nD × Option (Fin 22) => cellInv ER (rd ins) (κ (gc p)) (gc p))
    ∗ atPos ER (bar c) 0 ∅ 0 ∗ (bigSep Finset.univ fun k : Fin 22 => openTok ER (cell c k))
    ∗ (dutyTok ER (bar (xn c)) 0 false ∗ reached ER (bar (xn c)) 0)
    ∗ (dutyTok ER (bar (yn c)) 0 true ∗ reached ER (bar (yn c)) 0) ∗ toks F c)

theorem open_one (κ : GSem nD τ sig → ℕ) (c : Dev nD) (k : Fin 22) :
    iprop(ctx ins κ ∗ (openTok ER (cell c k) ∗ semVal (cell c k) 0))
      ⊢ (|={Set.univ}=> iprop(atPos ER (cell c k) 0 ∅ 0 ∗ reached ER (cell c k) 0) : sProp (MM F)) := by
  have hI : (bigSep Finset.univ fun p : Dev nD × Option (Fin 22) => cellInv ER (rd ins) (κ (gc p)) (gc p))
      ⊢ (cellInv ER (rd ins) (κ (cell c k)) (cell c k) : sProp (MM F)) :=
    bigSep_elim (Φ := fun p : Dev nD × Option (Fin 22) => (cellInv ER (rd ins) (κ (gc p)) (gc p) : sProp (MM F)))
      (Finset.mem_univ (c, some k))
  unfold ctx
  iintro ⟨⟨#HI, -⟩, Ho, Hs⟩
  imod (Rounds.cell_open ER (rd ins) (g := cell c k) (Set.mem_univ (κ (cell c k)))) $$ [Ho Hs] with ⟨Ha, #Hr⟩
  · isplitr; · iapply hI $$ HI
    isplitl [Ho]; · iexact Ho
    iexact Hs
  imodintro
  isplitl [Ha]; · iexact Ha
  iexact Hr

/-- All of a device's cells open at once. -/
theorem open_all (κ : GSem nD τ sig → ℕ) (c : Dev nD) :
    iprop(ctx ins κ ∗ bigSep Finset.univ fun k : Fin 22 => iprop(openTok ER (cell c k) ∗ semVal (cell c k) 0))
      ⊢ (|={Set.univ}=> bigSep Finset.univ fun k : Fin 22 => iprop(atPos ER (cell c k) 0 ∅ 0 ∗ reached ER (cell c k) 0) : sProp (MM F)) :=
  (bigSep_with_persistent (R := ctx ins κ) fun k _ => open_one ins κ c k).trans (bigSep_fupd _ _)

/-- The ghost state, opened. -/
theorem ghost_open (κ : GSem nD τ sig → ℕ) (c : Dev nD) :
    iprop(ghost ins κ c ∗ (bigSep Finset.univ fun k : Fin 22 => semVal (cell c k) 0) ∗ levAts L lv)
      ⊢ (|={Set.univ}=> opened ins κ c : sProp (MM F)) := by
  unfold ghost opened
  iintro ⟨⟨#HI, Ha, Ho, Hx, Hy, Ht⟩, Hs, #HL⟩
  imod (open_all ins κ c) $$ [Ho Hs] with H
  · isplitr
    · unfold ctx
      isplitr; · iexact HI
      iexact HL
    iapply (Entails.of_eq (bigSep_sep' Finset.univ (fun k : Fin 22 => (openTok ER (cell c k) : sProp (MM F))) (fun k => semVal (cell c k) 0)).symm)
    isplitl [Ho]; · iexact Ho
    iexact Hs
  ihave H := (Entails.of_eq (bigSep_sep' Finset.univ (fun k : Fin 22 => (atPos ER (cell c k) 0 ∅ 0 : sProp (MM F))) (fun k => reached ER (cell c k) 0))) $$ H
  icases H with ⟨Hat, Hr⟩
  imodintro
  isplitr
  · unfold ctx
    isplitr; · iexact HI
    iexact HL
  isplitl [Ha]; · iexact Ha
  isplitl [Hat]; · iexact Hat
  isplitl [Hr]; · unfold opens; iexact Hr
  isplitl [Hx]; · iexact Hx
  isplitl [Hy]; · iexact Hy
  iexact Ht

/-! ### Launch -/

/-- What every device may consult. -/
def records (κ : GSem nD τ sig → ℕ) : sProp (MM F) :=
  iprop((bigSep (barCells ∪ dmaCells) fun g => cellInv ER (rd ins) (κ g) g) ∗ bigSep barCells fun g => reached ER g 0)

instance records_persistent (κ : GSem nD τ sig → ℕ) : BI.Persistent (records ins κ) := by
  unfold records; infer_instance

theorem gc_mem (p : Dev nD × Option (Fin 22)) : gc p ∈ (barCells ∪ dmaCells : Finset (GSem nD τ sig)) := by
  rcases p with ⟨c, _ | k⟩
  · exact Finset.mem_union_left _ (Finset.mem_map_of_mem barEmb (Finset.mem_univ c))
  · exact Finset.mem_union_right _ (Finset.mem_map_of_mem cellEmb (Finset.mem_univ (c, k)))

theorem inv_all (κ : GSem nD τ sig → ℕ) :
    (bigSep (barCells ∪ dmaCells) fun g => (cellInv ER (rd ins) (κ g) g : sProp (MM F)))
      ⊢ bigSep Finset.univ fun p : Dev nD × Option (Fin 22) => cellInv ER (rd ins) (κ (gc p)) (gc p) := by
  have h := bigSep_with_persistent (S := (Finset.univ : Finset (Dev nD × Option (Fin 22))))
    (R := bigSep (barCells ∪ dmaCells) fun g => (cellInv ER (rd ins) (κ g) g : sProp (MM F)))
    (Φ := fun _ => (BI.emp : sProp (MM F))) (Ψ := fun p => cellInv ER (rd ins) (κ (gc p)) (gc p))
    fun p _ => sep_elim_left.trans (bigSep_elim (Φ := fun g => (cellInv ER (rd ins) (κ g) g : sProp (MM F))) (gc_mem p))
  rw [BI.bigSep_emp_const] at h
  refine BIBase.Entails.trans ?_ h
  iintro H
  isplitl [H]; · iexact H
  iempintro

theorem reached_bar (c : Dev nD) : (bigSep barCells fun g => (reached ER g 0 : sProp (MM F))) ⊢ reached ER (bar c) 0 :=
  bigSep_elim (Φ := fun g => (reached ER g 0 : sProp (MM F))) (Finset.mem_map_of_mem barEmb (Finset.mem_univ c))

/-- The tokens device `c` pays with. -/
def tokens (c : Dev nD) : sProp (MM F) :=
  iprop(dutyTok ER (bar (xn c)) 0 false ∗ dutyTok ER (bar (yn c)) 0 true ∗ toks F c)

/-- What stays with device `c`. -/
def linear (c : Dev nD) : sProp (MM F) :=
  iprop(atPos ER (bar c) 0 ∅ 0 ∗ (bigSep Finset.univ fun k : Fin 22 => openTok ER (cell c k)) ∗ tokens c)

theorem ghost_intro (κ : GSem nD τ sig → ℕ) (c : Dev nD) : iprop(records ins κ ∗ linear (F := F) c) ⊢ iprop(∃ κ, ghost ins κ c) := by
  unfold records linear ghost tokens
  iintro ⟨⟨#HI, #HR⟩, Ha, Ho, Hx, Hy, Ht⟩
  iexists κ
  isplitr; · iapply (inv_all ins κ) $$ HI
  isplitl [Ha]; · iexact Ha
  isplitl [Ho]; · iexact Ho
  isplitl [Hx]
  · isplitl [Hx]; · iexact Hx
    iapply (reached_bar (F := F) (xn c)) $$ HR
  isplitl [Hy]
  · isplitl [Hy]; · iexact Hy
    iapply (reached_bar (F := F) (yn c)) $$ HR
  iexact Ht

theorem tgt_tgt (c : Dev nD) (k : Fin 22) : tgt (tgt c k) k = c := by revert c k; decide
/-- Each cell's payer. -/
def tgtE : Dev nD × Fin 22 ≃ Dev nD × Fin 22 :=
  ⟨fun p => (tgt p.1 p.2, p.2), fun p => (tgt p.1 p.2, p.2), fun p => Prod.ext (tgt_tgt p.1 p.2) rfl, fun p => Prod.ext (tgt_tgt p.1 p.2) rfl⟩

/-- Every token to the device that pays its duty. -/
theorem toks_around :
    bigSep allToks (fun x => (dutyTok ER x.1 x.2.1 x.2.2 : sProp (MM F))) = bigSep Finset.univ fun c : Dev nD => tokens (F := F) c := by
  have hb (Φ : Bool → sProp (MM F)) : bigSep Finset.univ Φ = iprop(Φ false ∗ Φ true) := by
    rw [show (Finset.univ : Finset Bool) = {false, true} from by decide, bigSep_insert (by decide), bigSep_singleton]; rfl
  unfold allToks tokens toks
  rw [bigSep_map, bigSep_univ_prod]
  rw [bigSep_sep', bigSep_sep']
  rw [bigSep_congr (s := Finset.univ) (Ψ := fun c : Dev nD => iprop((dutyTok ER (bar c) 0 false ∗ dutyTok ER (bar c) 0 true)
      ∗ bigSep Finset.univ fun k : Fin 22 => (dutyTok ER (cell c k) 0 false : sProp (MM F)))) fun c _ => by
    rw [bigSep_univ_sum, hb]; rfl]
  rw [bigSep_sep', bigSep_sep', bigSep_univ_equiv xnE (fun c : Dev nD => (dutyTok ER (bar c) 0 false : sProp (MM F))),
    bigSep_univ_equiv ynE (fun c : Dev nD => (dutyTok ER (bar c) 0 true : sProp (MM F))),
    ← bigSep_univ_prod (fun p : Dev nD × Fin 22 => (dutyTok ER (cell p.1 p.2) 0 false : sProp (MM F))),
    bigSep_univ_equiv tgtE, bigSep_univ_prod]
  exact BI.equiv_iff.mp ⟨BI.sep_assoc, BI.sep_assoc'⟩

/-! ### The launch credit -/

theorem tally_cell (d c : Dev nD) (k l : Fin 22) (n : ℕ) :
    (tallyAt (cell d l) () n : CellTallies nD τ sig Unit) (cell c k) () = if c = d ∧ k = l then n else 0 := by
  rw [tallyAt_apply]
  by_cases h : c = d ∧ k = l
  · obtain ⟨rfl, rfl⟩ := h
    rw [if_pos ⟨rfl, rfl⟩, if_pos ⟨rfl, rfl⟩]
  · rw [if_neg (fun h' => h (cell_eq h'.1)), if_neg h]

theorem tally_cell_bar (d c : Dev nD) (l : Fin 22) (n : ℕ) :
    (tallyAt (cell d l) () n : CellTallies nD τ sig Unit) (bar c) () = 0 := by
  rw [tallyAt_ne_cell (cell_ne_bar d c l).symm]; rfl
theorem tally_bar_cell (d c : Dev nD) (k : Fin 22) (n : ℕ) :
    (tallyAt (bar d) () n : CellTallies nD τ sig Unit) (cell c k) () = 0 := by
  rw [tallyAt_ne_cell (cell_ne_bar c d k)]; rfl
theorem tally_bar (d c : Dev nD) (n : ℕ) :
    (tallyAt (bar d) () n : CellTallies nD τ sig Unit) (bar c) () = if c = d then n else 0 := by
  rw [tallyAt_apply]
  by_cases h : c = d
  · subst h; rw [if_pos ⟨rfl, rfl⟩, if_pos rfl]
  · rw [if_neg (fun h' => h (bar_eq h'.1)), if_neg h]

theorem eq_xn {c d : Dev nD} : c = xn d ↔ d = xn c := ⟨fun h => by rw [h, xn_xn], fun h => by rw [h, xn_xn]⟩
theorem eq_yn {c d : Dev nD} : c = yn d ↔ d = yn c := ⟨fun h => by rw [h, yn_yn], fun h => by rw [h, yn_yn]⟩

theorem owed_bar (d c : Dev nD) : O₀ d (bar c) () = (if d = yn c then 1 else 0) + (if d = xn c then 1 else 0) := by
  simp only [O₀, oweR, oweH, Pi.add_apply, Finsupp.add_apply, tally_cell_bar, tally_bar, Pi.zero_apply, Finsupp.zero_apply,
    Nat.zero_add, Nat.add_zero, eq_xn (c := c), eq_yn (c := c)]

theorem owed_recv (d c : Dev nD) (i : Fin 3) : O₀ d (cell c (recvK i)) () = if d = xn c then amt (recvK i) else 0 := by
  simp only [O₀, oweR, oweH, Pi.add_apply, Finsupp.add_apply, tally_cell, tally_bar_cell, Pi.zero_apply, Finsupp.zero_apply,
    eq_xn (c := c), eq_yn (c := c)]
  fin_cases i <;> simp

theorem owed_orecv (d c : Dev nD) (h : Fin 8) : O₀ d (cell c (orecvK h)) () = if d = yn c then amt (orecvK h) else 0 := by
  simp only [O₀, oweR, oweH, Pi.add_apply, Finsupp.add_apply, tally_cell, tally_bar_cell, Pi.zero_apply, Finsupp.zero_apply,
    eq_xn (c := c), eq_yn (c := c)]
  fin_cases h <;> simp

theorem launch_bar (c : Dev nD) :
    tallyOn (bar c) (launchCredit (Pipeline.owing O₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yn c) fun _ => 1, Finset.sum_ite_eq' Finset.univ (xn c) fun _ => 1,
    if_pos (Finset.mem_univ _), if_pos (Finset.mem_univ _)]

theorem launch_recv (c : Dev nD) (i : Fin 3) :
    tallyOn (cell c (recvK i)) (launchCredit (Pipeline.owing O₀) 0 (cell c (recvK i)))
      = (tallyAt (cell c (recvK i)) () (amt (recvK i)) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (xn c) fun _ => amt (recvK i), if_pos (Finset.mem_univ _)]

theorem launch_orecv (c : Dev nD) (h : Fin 8) :
    tallyOn (cell c (orecvK h)) (launchCredit (Pipeline.owing O₀) 0 (cell c (orecvK h)))
      = (tallyAt (cell c (orecvK h)) () (amt (orecvK h)) : CellTallies nD τ sig Unit) := by
  unfold tallyAt; refine congrArg _ (Finsupp.ext fun u => ?_); cases u
  rw [Pipeline.launchCredit_owing, Finsupp.single_eq_same, Finset.sum_congr rfl fun d _ => owed_orecv d c h,
    Finset.sum_ite_eq' Finset.univ (yn c) fun _ => amt (orecvK h), if_pos (Finset.mem_univ _)]

/-- The copies' semaphores among all. -/
def semEmb : Fin 22 ↪ SemLoc sig := ⟨fun k => .dma (enc k), fun _ _ h => enc_inj (SemLoc.dma.inj h)⟩

theorem creds (c : Dev nD) : (Pipeline.launchCred O₀ c : sProp (MM F)) ⊢ credIn F c := by
  have hsub : (Finset.univ.map semEmb : Finset (SemLoc sig)) ⊆ Finset.univ.erase (SemLoc.reg barSem) := by
    intro s hs
    obtain ⟨k, -, rfl⟩ := Finset.mem_map.mp hs
    exact Finset.mem_erase.mpr ⟨fun h => by
      have h' : (SemLoc.dma (enc k) : SemLoc sig) = .reg barSem := h
      simp only [reduceCtorEq] at h', Finset.mem_univ _⟩
  unfold Pipeline.launchCred
  rw [bigSep_univ_at _ (SemLoc.reg barSem), launch_bar]
  unfold credIn
  refine sep_mono_right ((bigSep_subset hsub).trans ?_)
  rw [bigSep_map]
  refine (Entails.of_eq (split22 (fun k : Fin 22 => (cred (tallyOn (cell c k) (launchCredit (Pipeline.owing O₀) 0 (cell c k))) : sProp (MM F))))).trans ?_
  iintro ⟨-, Hr, -, Ho⟩
  isplitl [Hr]
  · iapply (Entails.of_eq (bigSep_congr (s := Finset.univ) fun i _ => congrArg (fun t => (cred t : sProp (MM F))) (launch_recv c i))) $$ Hr
  · iapply (Entails.of_eq (bigSep_congr (s := Finset.univ) fun h _ => congrArg (fun t => (cred t : sProp (MM F))) (launch_orecv c h))) $$ Ho

end Cert.KernelIdeal.Hand

end
-- ==== Proof.Scratch.lean ====
/- The scoped buffers that no window stages, and the body's scratch buffers: the same. -/
module

public import proofs.«01_k».proof.Proof.BodyRun
public import proofs.«01_k».proof.Proof.Gen.KernelIdeal.Launch

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem any_in (c : Dev nD) {s : Shape} {e : EltTy} (M : Memref sig .tc .vmem s e) (h : M.view.set = Finset.univ) :
    iprop(∃ f : Buf (Elt F) (M.view.loc (c : Thread nD τ)), (M.view.loc (c : Thread nD τ)) ↦{fullShare} f)
      ⊢ (tlAny c M Finset.univ : sProp (MM F)) := by
  iintro ⟨%f, H⟩
  iapply (tl_any (c := c) (m := M) (P := Finset.univ) (v := M.view.read (Elt F) f))
  iapply (tl_intro (f := f) fun _ _ => rfl)
  rw [View.setOn_univ, h]
  iexact H

theorem any_out (c : Dev nD) {s : Shape} {e : EltTy} (M : Memref sig .tc .vmem s e) (h : M.view.set = Finset.univ) :
    (tlAny c M Finset.univ : sProp (MM F))
      ⊢ iprop(∃ f : Buf (Elt F) (M.view.loc (c : Thread nD τ)), (M.view.loc (c : Thread nD τ)) ↦{fullShare} f) := by
  unfold tlAny tl
  rw [View.setOn_univ, h]
  iintro ⟨%v, %f, -, H⟩
  iexists f; iexact H

/-- A scoped buffer at some contents. -/
abbrev bufAny (c : Dev nD) (b : Ref sig .tc) : sProp (MM F) :=
  iprop(∃ f : Buf (Elt F) ((c : Thread nD τ).loc b), ((c : Thread nD τ).loc b) ↦{fullShare} f)

theorem in0 (c : Dev nD) : bufAny c cc0_scratch0 ⊢ (tlAny c mC Finset.univ : sProp (MM F)) :=
  any_in c mC (View.set_whole cc0_scratch0)
theorem out0 (c : Dev nD) : (tlAny c mC Finset.univ : sProp (MM F)) ⊢ bufAny c cc0_scratch0 :=
  any_out c mC (View.set_whole cc0_scratch0)
theorem in1 (c : Dev nD) : bufAny c cc0_scratch1 ⊢ (tlAny c mCn Finset.univ : sProp (MM F)) :=
  any_in c mCn (View.set_whole cc0_scratch1)
theorem out1 (c : Dev nD) : (tlAny c mCn Finset.univ : sProp (MM F)) ⊢ bufAny c cc0_scratch1 :=
  any_out c mCn (View.set_whole cc0_scratch1)
theorem in2 (c : Dev nD) : bufAny c cc0_scratch2 ⊢ (tlAny c mWukn Finset.univ : sProp (MM F)) :=
  any_in c mWukn (View.set_whole cc0_scratch2)
theorem out2 (c : Dev nD) : (tlAny c mWukn Finset.univ : sProp (MM F)) ⊢ bufAny c cc0_scratch2 :=
  any_out c mWukn (View.set_whole cc0_scratch2)
theorem in3 (c : Dev nD) : bufAny c cc0_scratch3 ⊢ (tlAny c mWuvn Finset.univ : sProp (MM F)) :=
  any_in c mWuvn (View.set_whole cc0_scratch3)
theorem out3 (c : Dev nD) : (tlAny c mWuvn Finset.univ : sProp (MM F)) ⊢ bufAny c cc0_scratch3 :=
  any_out c mWuvn (View.set_whole cc0_scratch3)
theorem in4 (c : Dev nD) : bufAny c cc0_scratch4 ⊢ (tlAny c mQ Finset.univ : sProp (MM F)) :=
  any_in c mQ (View.set_whole cc0_scratch4)
theorem out4 (c : Dev nD) : (tlAny c mQ Finset.univ : sProp (MM F)) ⊢ bufAny c cc0_scratch4 :=
  any_out c mQ (View.set_whole cc0_scratch4)
theorem in5 (c : Dev nD) : bufAny c cc0_scratch5 ⊢ (tlAny c mQr Finset.univ : sProp (MM F)) :=
  any_in c mQr (View.set_whole cc0_scratch5)
theorem out5 (c : Dev nD) : (tlAny c mQr Finset.univ : sProp (MM F)) ⊢ bufAny c cc0_scratch5 :=
  any_out c mQr (View.set_whole cc0_scratch5)
theorem in6 (c : Dev nD) : bufAny c cc0_scratch6 ⊢ (tlAny c mKr Finset.univ : sProp (MM F)) :=
  any_in c mKr (View.set_whole cc0_scratch6)
theorem out6 (c : Dev nD) : (tlAny c mKr Finset.univ : sProp (MM F)) ⊢ bufAny c cc0_scratch6 :=
  any_out c mKr (View.set_whole cc0_scratch6)
theorem in7 (c : Dev nD) : bufAny c cc0_scratch7 ⊢ (tlAny c mK Finset.univ : sProp (MM F)) :=
  any_in c mK (View.set_whole cc0_scratch7)
theorem out7 (c : Dev nD) : (tlAny c mK Finset.univ : sProp (MM F)) ⊢ bufAny c cc0_scratch7 :=
  any_out c mK (View.set_whole cc0_scratch7)
theorem in8 (c : Dev nD) : bufAny c cc0_scratch8 ⊢ (tlAny c mV Finset.univ : sProp (MM F)) :=
  any_in c mV (View.set_whole cc0_scratch8)
theorem out8 (c : Dev nD) : (tlAny c mV Finset.univ : sProp (MM F)) ⊢ bufAny c cc0_scratch8 :=
  any_out c mV (View.set_whole cc0_scratch8)
theorem in9 (c : Dev nD) : bufAny c cc0_scratch9 ⊢ (tlAny c mO Finset.univ : sProp (MM F)) :=
  any_in c mO (View.set_whole cc0_scratch9)
theorem out9 (c : Dev nD) : (tlAny c mO Finset.univ : sProp (MM F)) ⊢ bufAny c cc0_scratch9 :=
  any_out c mO (View.set_whole cc0_scratch9)

theorem rest_eq (c : Dev nD) : (Pipeline.scopedRest spec0 c : sProp (MM F))
    = iprop(bufAny c cc0_scratch0 ∗ bufAny c cc0_scratch1 ∗ bufAny c cc0_scratch2 ∗ bufAny c cc0_scratch3 ∗ bufAny c cc0_scratch4 ∗ bufAny c cc0_scratch5 ∗ bufAny c cc0_scratch6 ∗ bufAny c cc0_scratch7 ∗ bufAny c cc0_scratch8 ∗ bufAny c cc0_scratch9) := scopedRest0_eq c

/-- The scoped buffers no window stages are the body's scratch. -/
theorem rest_scratch (c : Dev nD) : (Pipeline.scopedRest spec0 c : sProp (MM F)) ⊢ scratch F c := by
  rw [rest_eq]
  unfold scratch
  exact BIClass.sep_mono (in0 c) (BIClass.sep_mono (in1 c) (BIClass.sep_mono (in2 c) (BIClass.sep_mono (in3 c) (BIClass.sep_mono (in4 c) (BIClass.sep_mono (in5 c) (BIClass.sep_mono (in6 c) (BIClass.sep_mono (in7 c) (BIClass.sep_mono (in8 c) (in9 c)))))))))

theorem scratch_rest (c : Dev nD) : scratch F c ⊢ (Pipeline.scopedRest spec0 c : sProp (MM F)) := by
  rw [rest_eq]
  unfold scratch
  exact BIClass.sep_mono (out0 c) (BIClass.sep_mono (out1 c) (BIClass.sep_mono (out2 c) (BIClass.sep_mono (out3 c) (BIClass.sep_mono (out4 c) (BIClass.sep_mono (out5 c) (BIClass.sep_mono (out6 c) (BIClass.sep_mono (out7 c) (BIClass.sep_mono (out8 c) (out9 c)))))))))

end Cert.KernelIdeal.Hand

end
-- ==== Proof.Launch.lean ====
/- The run of @main on the four devices: it terminates, every buffer the region does not write holds what the host
   left, the result is the region's, and every semaphore is at zero. -/
module

public import proofs.«01_k».proof.Proof.Region
public import proofs.«01_k».proof.Proof.Ghost
public import proofs.«01_k».proof.Proof.Scratch

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ) (ρ : Dev nD → PrngReg)

/-! ### The region's record -/

/-- The kernel's own semaphores. -/
def osem (k : Fin 22) : SemLoc sig := .dma (enc k)

theorem osem_facts : Pipeline.OwnSemFacts spec0 osem := by decide

/-- What a device holds for the kernel from launch. -/
def Tk (c : Dev nD) : sProp (MM F) := iprop((∃ κ, ghost (insM m) κ c) ∗ credIn F c)

/-- What a device holds of the protocol after the kernel. -/
def Yk (c : Dev nD) : sProp (MM F) := semVal (bar c) 0

theorem ownSems_eq (c : Dev nD) : (Pipeline.ownSems0 osem c : sProp (MM F)) = bigSep Finset.univ fun k : Fin 22 => semVal (cell c k) 0 := rfl

theorem open_region (c : Dev nD) :
    iprop(Tk m c ∗ Pipeline.ownSems0 osem c ∗ levAts L lv) ⊢ (|={Set.univ}=> Xk m c : sProp (MM F)) := by
  rw [ownSems_eq]
  unfold Tk Xk
  iintro ⟨⟨⟨%κ, Hg⟩, Hc⟩, Hs, HL⟩
  imod (ghost_open (insM m) κ c) $$ [Hg Hs HL] with H
  · isplitl [Hg]; · iexact Hg
    isplitl [Hs]; · iexact Hs
    iexact HL
  imodintro
  isplitl [H]; · iexists κ; iexact H
  iexact Hc

theorem held_empty (c : Dev nD) (W : Valuation τ sig (Elt F)) : (StableHlo.held (c.tc : Thread nD τ) ∅ W : sProp (MM F)) = BI.emp := by
  unfold StableHlo.held
  exact BI.bigSep_empty

theorem enter_region (c : Dev nD) :
    iprop(Pipeline.scopedRest spec0 c ∗ (∃ r, prngReg c r) ∗ StableHlo.held (c.tc : Thread nD τ) ∅ (V1 m c) ∗ Xk m c)
      ⊢ (pdats m 0 c).Φ 0 := by
  rw [show (pdats m 0 c).Φ 0 = iprop(Xk m c ∗ scratch F c ∗ ∃ r, prngReg c r) from rfl]
  iintro ⟨Hs, Hp, -, HX⟩
  isplitl [HX]; · iexact HX
  isplitl [Hs]; · iapply (rest_scratch c) $$ Hs
  iexact Hp

theorem leave_region (c : Dev nD) :
    (pdats m 0 c).Φ (Fin.last cfg0.N)
      ⊢ iprop(Pipeline.scopedRest spec0 c ∗ (∃ r, prngReg c r) ∗ StableHlo.held (c.tc : Thread nD τ) ∅ (Vout m c)
        ∗ Pipeline.ownSems0 osem c ∗ Yk c) := by
  rw [show (pdats m 0 c).Φ (Fin.last cfg0.N)
    = iprop(semVal (bar c) 0 ∗ (bigSep Finset.univ fun k => semVal (cell c k) 0) ∗ scratch F c ∗ ∃ r, prngReg c r) from rfl, held_empty, ownSems_eq]
  unfold Yk
  iintro ⟨Hb, Hs, Hc, Hp⟩
  isplitl [Hc]; · iapply (scratch_rest c) $$ Hc
  isplitl [Hp]; · iexact Hp
  isplitr; · iempintro
  isplitl [Hs]; · iexact Hs
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin 10) : (pdats m 0 c).share w = fullShare := by
  show (if _ then fullShare else fullShare) = _
  exact ite_self _

theorem stage_level : ∀ (w : Fin 10) (s : Fin (spec0 w).nbuf), ((spec0 w).sem s).val < 13 := by decide

theorem owed_above (c : Dev nD) (t : Fin (cfg0.N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · obtain ⟨h1, h2⟩ := above_O₀ c g i h
    exact ⟨by unfold L; rw [if_pos h1]; exact Finset.mem_singleton_self _, h2⟩
  · exact absurd h (Nat.lt_irrefl 0)

/-- The buffers the region holds beside its windows' arrays. -/
abbrev restRefs : Finset (DevRef τ sig) := Pipeline.ucRefs τ sig \ Pipeline.arrRefs (τ := τ) spec0

theorem rest_same (c : Dev nD) : ∀ b ∈ restRefs \ ∅, Vout m c b = V1 m c b := by
  intro b hb
  have hb' := (Finset.mem_sdiff.mp (Finset.mem_sdiff.mp hb).1).2
  have hne : b ≠ Proc.devRef .tc main_v46 := fun h =>
    hb' (h ▸ (by decide : (Proc.devRef .tc main_v46 : DevRef τ sig) ∈ Pipeline.arrRefs (τ := τ) spec0))
  exact Function.update_of_ne hne _ _

set_option backward.isDefEq.respectTransparency.types false in
/-- The region's record. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ restRefs (Finset.empty_subset _) kit rfl (fun c => (body_obligation m c).loose)
    (fun _ => 0) O₀ (fun c => (owed_zero m c).trans (zero_add _).symm) (owed_last m) (fun _ => rfl) (share_full m)
    (V1 m) (Vout m) (rest_same m)
    (Tk m) Yk (Xk m) Yk (open_region m) (enter_region m) (leave_region m)
    (fun c => by iintro H; imodintro; iexact H)
    (fun _ => 0)
    ⟨fun c w s => by rw [L_tc]; exact Finset.mem_singleton_self _,
      fun c w s => le_of_eq (if_pos (stage_level w s)), fun c t g i h => owed_above m c t g i h⟩
    (fun _ => iprop(emp))
    (fun c w => rfl)
    (fun c w => by
      by_cases hw : w = (9 : Fin 10)
      · subst hw; exact arr_out m c
      · exact arr_in m c w hw)

/-! ### Between the segments -/

/-- What rides beside the buffers before the region and after it. -/
def E : Fin 2 → Dev nD → sProp (MM F)
  | 0, c => iprop(Tk m c ∗ (∃ r, prngReg c r) ∗ ∃ W, owes (c : Thread nD τ) (O₀ c) W)
  | 1, c => iprop(Yk c ∗ ∃ W, owes (c : Thread nD τ) (0 : CellTallies nD τ sig Unit) W)

theorem arr_sub : Pipeline.arrRefs (τ := τ) spec0 ⊆ Pipeline.ucRefs τ sig := by decide

theorem pre_region (c : Dev nD) :
    iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [zero_add, StableHlo.held_sub_split (c.tc : Thread nD τ) arr_sub (V1 m c)]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem post_region (c : Dev nD) :
    (reg0 m).post c ⊢ iprop(StableHlo.held (c : Thread nD τ) (Pipeline.ucRefs τ sig) (Vout m c) ∗ E m 1 c) := by
  show iprop(StableHlo.held (c.tc : Thread nD τ) (Pipeline.arrRefs (τ := τ) spec0) (Vout m c) ∗ (∃ r, prngReg c r)
    ∗ (StableHlo.held (c.tc : Thread nD τ) restRefs (Vout m c) ∗ emp) ∗ Yk c
    ∗ ∃ Wd, owes (c : Thread nD τ) (0 : CellTallies nD τ sig Unit) Wd) ⊢ _
  rw [StableHlo.held_sub_split (c.tc : Thread nD τ) arr_sub (Vout m c)]
  unfold E
  iintro ⟨Ha, -, ⟨Hr, -⟩, HY, HO⟩
  isplitl [Ha Hr]
  · isplitl [Ha]; · iexact Ha
    iexact Hr
  isplitl [HY]; · iexact HY
  iexact HO

/-! ### Launch -/

/-- The launch element: the pipeline's at its staging cells, the protocol's at every cell. -/
def u₀ : UU :=
  (initOf (Pipeline.cells cfgs cellOf_inj) (Pipeline.launchToks cfgs cellOf_inj), launchOf barCells dmaCells allToks)

/-- A resource all of which is device `c₀`'s. -/
def onDev (c₀ : Dev nD) (X : sProp (MM F)) (c : Dev nD) : sProp (MM F) := if c = c₀ then X else BI.emp

theorem bigSep_onDev (c₀ : Dev nD) (X : sProp (MM F)) : bigSep Finset.univ (onDev c₀ X) = X := by
  rw [bigSep_univ_at _ c₀, bigSep_congr (s := Finset.univ.erase c₀) (Ψ := fun _ => (BI.emp : sProp (MM F)))
      fun c hc => by unfold onDev; rw [if_neg (Finset.ne_of_mem_erase hc)], BI.bigSep_emp_const]
  unfold onDev; rw [if_pos rfl]
  exact BI.equiv_iff.mp sep_emp

/-- The protocol's launch element, on device 0 until the launch step deals it out. -/
def G : Dev nD → sProp (MM F) := onDev 0 (BI.own (ER (launchOf barCells dmaCells allToks)))

/-- Before the host's operations. -/
abbrev T₀ (c : Dev nD) : sProp (MM F) :=
  iprop(StableHlo.held (c : Thread nD τ) (Pipeline.ucRefs τ sig) (V0 m c) ∗ E m 0 c)
/-- At the end. -/
abbrev Tₙ (c : Dev nD) : sProp (MM F) :=
  iprop(StableHlo.held (c : Thread nD τ) (Pipeline.ucRefs τ sig) (Vout m c) ∗ Yk c)

/-- What of a device's launch holdings is not the protocol's ghost state. -/
def bundle (c : Dev nD) : sProp (MM F) :=
  iprop(StableHlo.held (c : Thread nD τ) (Pipeline.ucRefs τ sig) (V0 m c) ∗ credIn F c
    ∗ owes (c : Thread nD τ) (O₀ c) ∅ ∗ ∃ r, prngReg c r)

theorem T₀_intro (κ : GSem nD τ sig → ℕ) (c : Dev nD) : iprop(records (insM m) κ ∗ (linear c ∗ bundle m c)) ⊢ T₀ m c := by
  unfold bundle T₀ E Tk
  iintro ⟨HR, Hl, Hh, Hc, HO, Hp⟩
  isplitl [Hh]; · iexact Hh
  isplitl [HR Hl Hc]
  · isplitl [HR Hl]
    · iapply (ghost_intro (insM m) κ c)
      isplitl [HR]; · iexact HR
      iexact Hl
    iexact Hc
  isplitl [Hp]; · iexact Hp
  iexists ∅; iexact HO

theorem unscopedSems_bar (c : Dev nD) : (unscopedSems0 c : sProp (MM F)) = semVal (bar c) 0 := by
  unfold unscopedSems0
  rw [show (Finset.univ.filter fun sm : SemLoc sig => ¬ sm.isScoped .tc) = {SemLoc.reg barSem} from by decide, BI.bigSep_singleton]

/-- One device's launch holdings. -/
theorem core_launch (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (bar c) 0 ∗ G c)) : sProp (MM F)) := by
  rw [show (unscopedBufs c (fun b => m ((c : Thread nD τ).loc b)) : sProp (MM F))
    = StableHlo.held (c : Thread nD τ) (Pipeline.ucRefs τ sig) (V0 m c) from Pipeline.unscopedBufs_held c (V0 m c), unscopedSems_bar]
  unfold bundle
  iintro ⟨Hh, Hs, HO, Hc, Hp, HG⟩
  isplitl [Hh HO Hc Hp]
  · isplitl [Hh]; · iexact Hh
    isplitl [Hc]; · iapply (creds c) $$ Hc
    isplitl [HO]; · iexact HO
    iexists (ρ c); iexact Hp
  isplitl [Hs]; · iexact Hs
  iexact HG

/-- Every device's launch holdings, the running cells' counters and the launch element apart. -/
theorem all_launch :
    (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ (bigSep barCells fun g => semVal g 0)
          ∗ BI.own (ER (launchOf barCells dmaCells allToks))) : sProp (MM F)) := by
  refine BIBase.Entails.trans (bigSep_mono fun c _ => core_launch m ρ c) (Entails.of_eq ?_)
  rw [bigSep_sep', bigSep_sep', show bigSep Finset.univ (fun c : Dev nD => (G c : sProp (MM F)))
    = BI.own (ER (launchOf barCells dmaCells allToks)) from bigSep_onDev 0 _, bigSep_map]
  rfl

/-- What stays with the devices, out of what the launch makes. -/
theorem linear_all :
    iprop((bigSep barCells fun g => atPos ER g 0 ∅ 0) ∗ (bigSep dmaCells fun g => openTok ER g)
        ∗ bigSep allToks fun x => dutyTok ER x.1 x.2.1 x.2.2)
      ⊢ (bigSep Finset.univ fun c : Dev nD => linear c : sProp (MM F)) := by
  refine Entails.of_eq ?_
  unfold linear
  rw [bigSep_sep', bigSep_sep', toks_around, bigSep_map, bigSep_map, bigSep_univ_prod]
  rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp (MM F)) := by
  iintro ⟨H, -⟩
  ihave H' := (all_launch m ρ) $$ H
  icases H' with ⟨HB, Hv, Hu⟩
  imod (Rounds.fund_launch ER (rd (insM m)) disjoint_cells (fun g _ h => h) allToks) $$ [Hv Hu] with ⟨%κ, -, Hinv, Hr, Hat, Hopen, Htok⟩
  · isplitl [Hv]; · iexact Hv
    iexact Hu
  imodintro
  iapply (bigSep_with_persistent (R := records (insM m) κ) (Φ := fun c => iprop(linear c ∗ bundle m c)) fun c _ => T₀_intro m κ c)
  isplitl [Hinv Hr]
  · unfold records
    isplitl [Hinv]; · iexact Hinv
    iexact Hr
  iapply (Entails.of_eq (bigSep_sep' Finset.univ (fun c : Dev nD => (linear c : sProp (MM F))) (fun c => bundle m c)).symm)
  isplitr [HB]
  · iapply (linear_all (F := F))
    isplitl [Hat]; · iexact Hat
    isplitl [Hopen]; · iexact Hopen
    iexact Htok
  · iexact HB

theorem unscoped_eq : ∀ sm : SemLoc sig, sm.isScoped .tc = false → sm = .reg barSem := by decide

/-- What the end state says of one device. -/
theorem read_end (c : Dev nD) (s' : Phys nD τ sig (Elt F)) :
    iprop(Tₙ m c ∗ SI s') ⊢ (|={Set.univ}=> iprop(⌜(∀ b ∈ Pipeline.ucRefs τ sig, s'.mem.mem (c, b) = Vout m c b)
      ∧ s'.mem.sem (bar c) = 0⌝ ∗ SI s') : sProp (MM F)) := by
  dsimp only [Tₙ]
  unfold StableHlo.held Yk
  iintro ⟨⟨Hh, Hb⟩, HSI⟩
  icombine HSI Hb gives %hb
  ihave Hr := (pointsTo_read_all (Pipeline.ucRefs τ sig) (fun b => ((c : Thread nD τ).1, b)) (Vout m c) s') $$ [Hh HSI]
  · isplitl [Hh]; · iexact Hh
    iexact HSI
  icases Hr with ⟨%h, HSI⟩
  imodintro
  isplitr
  · ipureintro
    exact ⟨h, by simpa using hb⟩
  iexact HSI

set_option backward.isDefEq.respectTransparency.types false in
/-- The run. -/
theorem run_main : θ_run defs (onTc (τ := τ) (main (F := F))) ⟨m, fun _ => 0, ρ⟩
    (fun r => (∀ c : Dev nD, ∀ b ∈ Pipeline.ucRefs τ sig, r.2.mem (c, b) = Vout m c b) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, pre_region m c, (post_region m c).trans (by
      unfold E Tₙ
      iintro ⟨Hh, HY, HO⟩
      isplitr [HO]
      · isplitl [Hh]; · iexact Hh
        iexact HY
      · iexact HO)⟩)
    (hinit := init m ρ)
    (QY := fun c s => (∀ b ∈ Pipeline.ucRefs τ sig, s.mem (c, b) = Vout m c b) ∧ s.sem (bar c) = 0)
    (hfin := read_end m)
    (hQ := fun s h hs => ⟨fun c => (h c).1, sem_eq_zero hs fun c sm hsm => by
      obtain rfl := unscoped_eq sm hsm
      exact (h c).2⟩)

end Cert.KernelIdeal.Hand

end
-- ==== Proof.Frames.lean ====
/- The frame of the kernel, for any float values: the arguments end as launched, and every semaphore at zero. -/
module

public import proofs.«01_k».proof.Proof.Launch

@[expose] public section

noncomputable section

namespace Cert.KernelIdeal.Hand

open Idealize.ShloMosaic Idealize.ShloMosaic.TcCoe
open Idealize.SL Idealize.SL.RA Idealize.SL.BI
open scoped Idealize.SL.BI
open Idealize.SL.Sem
open Cert.KernelIdeal Cert.KernelIdeal.Gen

variable {F : FTy → Type} [FloatOps F]
variable (m : (ℓ : Loc nD τ sig) → Buf (Elt F) ℓ) (ρ : Dev nD → PrngReg)

theorem arg_kept (c : Dev nD) (r : Ref sig .tc) (h : r ∉ hostOps0_W) (h' : r ≠ main_v46) :
    Vout m c r = m ((c.tc : Thread nD τ).loc r) :=
  (Vout_of m c r h').trans (V1_of m c r h)

/-- A buffer of the TensorCore that outlives the kernel, read at the end. -/
theorem read_ref {M : (ℓ : Loc nD τ sig) → Buf (Elt F) ℓ} {c : Dev nD}
    (h : ∀ b ∈ Pipeline.ucRefs τ sig, M (c, b) = Vout m c b) (r : Ref sig .tc)
    (hr : ¬ (Proc.devRef .tc r : DevRef τ sig).isScoped) : M ((c.tc : Thread nD τ).loc r) = Vout m c r :=
  h (Proc.devRef .tc r) (Finset.mem_filter.mpr ⟨StableHlo.devRef_mem_tcRefs r, hr⟩)

/-- The run, with the result and the arguments read. -/
theorem run_read : θ_run defs (onTc (τ := τ) (main (F := F))) ⟨m, fun _ => 0, ρ⟩ (fun r => (∀ c : Dev nD,
      r.2.mem ((c.tc : Thread nD τ).loc main_v46) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨
      (read_ref m (h.1 c) main_v46 (by decide)).trans (Vout_out m c),
      (read_ref m (h.1 c) main_arg0 (by decide)).trans (arg_kept m c main_arg0 (by decide) (by decide)),
      (read_ref m (h.1 c) main_arg1 (by decide)).trans (arg_kept m c main_arg1 (by decide) (by decide)),
      (read_ref m (h.1 c) main_arg2 (by decide)).trans (arg_kept m c main_arg2 (by decide) (by decide)),
      (read_ref m (h.1 c) main_arg3 (by decide)).trans (arg_kept m c main_arg3 (by decide) (by decide)),
      (read_ref m (h.1 c) main_arg4 (by decide)).trans (arg_kept m c main_arg4 (by decide) (by decide)),
      (read_ref m (h.1 c) main_arg5 (by decide)).trans (arg_kept m c main_arg5 (by decide) (by decide)),
      (read_ref m (h.1 c) main_arg6 (by decide)).trans (arg_kept m c main_arg6 (by decide) (by decide)),
      (read_ref m (h.1 c) main_arg7 (by decide)).trans (arg_kept m c main_arg7 (by decide) (by decide))⟩, h.2⟩)
    (run_main m ρ)

/-- The frame. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_read m ρ)

end Cert.KernelIdeal.Hand

end
-- ==== Proof.Same.lean ====
/- The certified program and its idealization are the same program under two names: their tables and their hosts agree. -/
module

public import proofs.«01_k».proof.Defs
public import proofs.«01_k».proof.Proof.Gen.Kernel
public import proofs.«01_k».proof.Proof.Gen.KernelIdeal
public import proofs.«01_k».proof.Proof.Frames

@[expose] public section

noncomputable section
namespace Cert.Proof
open Idealize.ShloMosaic Idealize.ShloMosaic.TcCoe Idealize.SL.Sem
set_option maxRecDepth 40000
set_option maxHeartbeats 1000000
/-- The two programs' body tables agree. -/
theorem bodies_same : Cert.Kernel.defs₀ (F := Bits) = Cert.KernelIdeal.defs₀ (F := Bits) := by
  funext p ℓ a
  cases p with
  | tc =>
    match ℓ, a with
    | ⟨0, _⟩, _ => rfl
  | scScalar => rfl
  | scVector => rfl

/-- So do the tables with the pipelines. -/
theorem defs_same : Cert.Kernel.defs (F := Bits) = Cert.KernelIdeal.defs (F := Bits) :=
  congrArg (Pipeline.defs Cert.KernelIdeal.pcfgs) bodies_same

/-- And the hosts. -/
theorem main_same : Cert.Kernel.main (F := Bits) = Cert.KernelIdeal.main (F := Bits) := rfl

/-- The frame of the certified program. -/
theorem frame_kernel : Cert.quiescent_Kernel (hKernel := Cert.Kernel.Gen.facts) := by
  intro m g _
  rw [defs_same, main_same]
  exact Cert.KernelIdeal.Hand.frame_main (F := Bits) m g

end Cert.Proof

end
-- ==== Proof.Spec.lean ====
/- The mathematics: multi-head latent attention over the extended reals, element by element. -/
module

public import Idealize.ShloMosaic.PureOps.Ideal
public import Idealize.ShloMosaic.PureOps.Ideal.Laws

@[expose] public section

noncomputable section

namespace Cert.Math

open Idealize.ShloMosaic
open scoped BigOperators

/-- The weighted mean of `v`, the weights the normalised exponentials of the scores `s`. -/
def att (s v : Fin 512 → EReal) : EReal :=
  ∑ t, Ideal.div (Ideal.exp (s t - Finset.fold max (Ideal.ofBits .f32 4286578688#32) s Finset.univ))
    (∑ u, Ideal.exp (s u - Finset.fold max (Ideal.ofBits .f32 4286578688#32) s Finset.univ)) * v t

/-- The scale of the scores, as the programs spell it. -/
def scale : EReal := Ideal.ofBits .f32 1034021019#32

/-- The whole arguments. -/
structure Args where
  x : Fin 2 → Fin 512 → Fin 2048 → EReal
  wdkv : Fin 2048 → Fin 256 → EReal
  wuk : Fin 256 → Fin 2048 → EReal
  wuv : Fin 256 → Fin 2048 → EReal
  wq : Fin 2048 → Fin 2048 → EReal
  wqr : Fin 2048 → Fin 512 → EReal
  wkr : Fin 2048 → Fin 32 → EReal
  wo : Fin 2048 → Fin 2048 → EReal

/-- Column `d` of head `h`. -/
abbrev col (h : Fin 16) (d : Fin 128) : Fin 2048 := ⟨h.val * 128 + d.val, by omega⟩
/-- Rotary column `d` of head `h`. -/
abbrev rot (h : Fin 16) (d : Fin 32) : Fin 512 := ⟨h.val * 32 + d.val, by omega⟩
/-- The head of a column. -/
abbrev hd (n : Fin 2048) : Fin 16 := ⟨n.val / 128, by omega⟩

variable (A : Args)

def latent (b : Fin 2) (s : Fin 512) (k : Fin 256) : EReal := ∑ i, A.x b s i * A.wdkv i k
def key (b : Fin 2) (s : Fin 512) (n : Fin 2048) : EReal := ∑ k, latent A b s k * A.wuk k n
def value (b : Fin 2) (s : Fin 512) (n : Fin 2048) : EReal := ∑ k, latent A b s k * A.wuv k n
def query (b : Fin 2) (s : Fin 512) (n : Fin 2048) : EReal := ∑ i, A.x b s i * A.wq i n
def rquery (b : Fin 2) (s : Fin 512) (n : Fin 512) : EReal := ∑ i, A.x b s i * A.wqr i n
def rkey (b : Fin 2) (s : Fin 512) (n : Fin 32) : EReal := ∑ i, A.x b s i * A.wkr i n

/-- The scaled score of position `t` for position `s`, in head `h`. -/
def score (b : Fin 2) (h : Fin 16) (s t : Fin 512) : EReal :=
  ((∑ d, query A b s (col h d) * key A b t (col h d)) + ∑ d, rquery A b s (rot h d) * rkey A b t d) * scale

/-- Column `n` of the heads laid end to end. -/
def mixed (b : Fin 2) (s : Fin 512) (n : Fin 2048) : EReal := att (score A b (hd n) s) (fun t => value A b t n)

def out (b : Fin 2) (s : Fin 512) (n : Fin 2048) : EReal := ∑ j, mixed A b s j * A.wo j n

/-! ### Sums cut in two -/

/-- The two halves, the upper or the lower first. -/
theorem sum_halves {N : Nat} (f : Fin (2 * N) → EReal) (p q : Fin 2) (hpq : p ≠ q) :
    ∑ i, f i = (∑ i : Fin N, f ⟨N * p.val + i.val, by have := i.isLt; have := p.isLt; have := Nat.mul_le_mul_left N (Nat.lt_succ_iff.mp this); omega⟩)
      + ∑ i : Fin N, f ⟨N * q.val + i.val, by have := i.isLt; have := q.isLt; have := Nat.mul_le_mul_left N (Nat.lt_succ_iff.mp this); omega⟩ := by
  have h : ∑ i, f i = (∑ i : Fin N, f ⟨i.val, by have := i.isLt; omega⟩) + ∑ i : Fin N, f ⟨N + i.val, by have := i.isLt; omega⟩ := by
    rw [← Equiv.sum_comp (finCongr (two_mul N).symm), Fin.sum_univ_add]
    rfl
  rw [h]
  match p, q, hpq with
  | 0, 1, _ =>
    refine congrArg₂ _ (Finset.sum_congr rfl fun i _ => congrArg f (Fin.ext ?_)) (Finset.sum_congr rfl fun i _ => congrArg f (Fin.ext ?_)) <;>
      simp
  | 1, 0, _ =>
    rw [add_comm]
    refine congrArg₂ _ (Finset.sum_congr rfl fun i _ => congrArg f (Fin.ext ?_)) (Finset.sum_congr rfl fun i _ => congrArg f (Fin.ext ?_)) <;>
      simp
  | 0, 0, h => exact absurd rfl h
  | 1, 1, h => exact absurd rfl h

end Cert.Math

end
-- ==== Proof.Tiles.lean ====
/- The kernel's blocks of values over the extended reals, element by element. -/
module

public import proofs.«01_k».proof.Proof.Region
public import proofs.«01_k».proof.Proof.Spec
public import Idealize.ShloMosaic.Lib.Pointwise
public import Idealize.ShloMosaic.PureOps.Ideal.Laws

@[expose] public section

noncomputable section

namespace Cert.KernelIdeal.Hand

open Idealize.ShloMosaic Idealize.ShloMosaic.TcCoe
open Cert.KernelIdeal Cert.KernelIdeal.Gen Facts₀ Facts
open scoped BigOperators

theorem xT_apply (k : Fin 2) (xb : Vec Ideal S1x512x2048 .bf16) (r : Fin 256) (i : Fin 2048) :
    xT k xb (ix2 r i) = xb (ix3 0 ⟨256 * k.val + r.val, by omega⟩ i) := by
  unfold xT
  pointwise

theorem cT_apply (xs : FVec Ideal S256x2048 .bf16) (w : Vec Ideal S2048x128 .bf16) (r : Fin 256) (n : Fin 128) :
    cT xs w (ix2 r n) = ∑ k : Fin 2048, xs (ix2 r k) * w (ix2 k n) := by
  unfold cT
  pointwise

theorem qT_apply (xs : FVec Ideal S256x2048 .bf16) (w : Vec Ideal S2048x1024 .bf16) (r : Fin 256) (n : Fin 1024) :
    qT xs w (ix2 r n) = ∑ k : Fin 2048, xs (ix2 r k) * w (ix2 k n) := by
  unfold qT
  pointwise

theorem qrT_apply (xs : FVec Ideal S256x2048 .bf16) (w : Vec Ideal S2048x256 .bf16) (r : Fin 256) (n : Fin 256) :
    qrT xs w (ix2 r n) = ∑ k : Fin 2048, xs (ix2 r k) * w (ix2 k n) := by
  unfold qrT
  pointwise

theorem krT_apply (xs : FVec Ideal S256x2048 .bf16) (w : Vec Ideal S2048x32 .bf16) (r : Fin 256) (n : Fin 32) :
    krT xs w (ix2 r n) = ∑ k : Fin 2048, xs (ix2 r k) * w (ix2 k n) := by
  unfold krT
  pointwise

theorem kvT_apply (c cn : Vec Ideal S256x128 .bf16) (w wn : Vec Ideal S128x1024 .bf16) (r : Fin 256) (n : Fin 1024) :
    kvT c cn w wn (ix2 r n) = (∑ k : Fin 128, c (ix2 r k) * w (ix2 k n)) + ∑ k : Fin 128, cn (ix2 r k) * wn (ix2 k n) := by
  unfold kvT
  pointwise

theorem scoreT_apply (h : Fin 8) (kr : Vec Ideal S512x32 .bf16) (qr : Vec Ideal S512x256 .bf16) (q k : Vec Ideal S512x128 .bf16)
    (s t : Fin 512) :
    scoreT h kr qr q k (ix2 s t) = ((∑ d : Fin 128, q (ix2 s d) * k (ix2 t d))
      + ∑ d : Fin 32, qr (ix2 s ⟨32 * h.val + d.val, by omega⟩) * kr (ix2 t d)) * Cert.Math.scale := by
  unfold scoreT Cert.Math.scale
  pointwise

theorem probT_apply (x : FVec Ideal S512x512 .f32) (s t : Fin 512) :
    probT (expT x) (ix2 s t) = Ideal.div
      (Ideal.exp (x (ix2 s t) - Finset.fold max (Ideal.ofBits .f32 4286578688#32) (fun u => x (ix2 s u)) Finset.univ))
      (∑ u : Fin 512, Ideal.exp (x (ix2 s u) - Finset.fold max (Ideal.ofBits .f32 4286578688#32) (fun u => x (ix2 s u)) Finset.univ)) := by
  unfold probT expT
  pointwise

theorem attnT_apply (h : Fin 8) (kr : Vec Ideal S512x32 .bf16) (qr : Vec Ideal S512x256 .bf16) (q k v : Vec Ideal S512x128 .bf16)
    (s : Fin 512) (d : Fin 128) :
    attnT h kr qr q k v (ix2 s d) = Cert.Math.att (fun t => scoreT h kr qr q k (ix2 s t)) (fun t => v (ix2 t d)) := by
  unfold attnT Cert.Math.att
  simp only [← probT_apply]
  generalize probT (expT (scoreT h kr qr q k)) = p
  pointwise

theorem out1T_apply (o : Vec Ideal S256x1024 .bf16) (w : Vec Ideal S1024x2048 .bf16) (r : Fin 256) (n : Fin 2048) :
    out1T o w (ix3 0 r n) = ∑ k : Fin 1024, o (ix2 r k) * w (ix2 k n) := by
  unfold out1T oT
  pointwise

theorem out2T_apply (old : Vec Ideal S1x256x2048 .f32) (o : Vec Ideal S256x1024 .bf16) (w : Vec Ideal S1024x2048 .bf16)
    (r : Fin 256) (n : Fin 2048) :
    out2T old o w (ix3 0 r n) = old (ix3 0 r n) + ∑ k : Fin 1024, o (ix2 r k) * w (ix2 k n) := by
  unfold out2T oT
  pointwise

/-! ### The rectangles, coordinate by coordinate -/

theorem rowR_emb (n : Nat) (j : Fin 4) (r : Fin 256) (i : Fin n) :
    (rowR n j).emb (ix2 r i) = (ix2 ⟨256 * j.val + r.val, by omega⟩ i : (⟨2, ![1024, n]⟩ : Shape).Idx) := by
  funext a; apply Fin.ext; match a with
  | ⟨0, _⟩ => exact (Rect.emb_apply _ _ _).trans (by simp)
  | ⟨1, _⟩ => exact (Rect.emb_apply _ _ _).trans (by simp)

theorem batR_emb (n : Nat) (b : Fin 2) (s : Fin 512) (i : Fin n) :
    (batR n b).emb (ix2 s i) = (ix2 ⟨512 * b.val + s.val, by omega⟩ i : (⟨2, ![1024, n]⟩ : Shape).Idx) := by
  funext a; apply Fin.ext; match a with
  | ⟨0, _⟩ => exact (Rect.emb_apply _ _ _).trans (by simp)
  | ⟨1, _⟩ => exact (Rect.emb_apply _ _ _).trans (by simp)

theorem tileR_emb (h : Fin 8) (b : Fin 2) (s : Fin 512) (d : Fin 128) :
    (tileR h b).emb (ix2 s d) = (ix2 ⟨512 * b.val + s.val, by omega⟩ ⟨128 * h.val + d.val, by omega⟩ : S1024x1024.Idx) := by
  funext a; apply Fin.ext; match a with
  | ⟨0, _⟩ => exact (Rect.emb_apply _ _ _).trans (by simp)
  | ⟨1, _⟩ => exact (Rect.emb_apply _ _ _).trans (by simp)

theorem allR_emb (m n : Nat) (r : Fin m) (i : Fin n) :
    (allR m n).emb (ix2 r i) = (ix2 r i : (⟨2, ![m, n]⟩ : Shape).Idx) := by
  funext a; apply Fin.ext; match a with
  | ⟨0, _⟩ => exact (Rect.emb_apply _ _ _).trans (by simp)
  | ⟨1, _⟩ => exact (Rect.emb_apply _ _ _).trans (by simp)

theorem xR_emb (b : Fin 2) (s : Fin 512) (i : Fin 2048) : (xR b).emb (ix3 0 s i) = (ix3 b s i : S2x512x2048.Idx) := by
  funext a; apply Fin.ext; match a with
  | ⟨0, _⟩ => exact (Rect.emb_apply _ _ _).trans (by simp)
  | ⟨1, _⟩ => exact (Rect.emb_apply _ _ _).trans (by simp)
  | ⟨2, _⟩ => exact (Rect.emb_apply _ _ _).trans (by simp)

theorem outR_emb (b k : Fin 2) (r : Fin 256) (i : Fin 2048) :
    (outR b k).emb (ix3 0 r i) = (ix3 b ⟨256 * k.val + r.val, by omega⟩ i : S2x512x2048.Idx) := by
  funext a; apply Fin.ext; match a with
  | ⟨0, _⟩ => exact (Rect.emb_apply _ _ _).trans (by simp)
  | ⟨1, _⟩ => exact (Rect.emb_apply _ _ _).trans (by simp)
  | ⟨2, _⟩ => exact (Rect.emb_apply _ _ _).trans (by simp)

end Cert.KernelIdeal.Hand

end
-- ==== Proof.Whole.lean ====
/- The kernel's whole values over the extended reals, and device `c`'s output from the slices of the arguments. -/
module

public import proofs.«01_k».proof.Proof.Tiles

@[expose] public section

noncomputable section

namespace Cert.KernelIdeal.Hand

open Idealize.ShloMosaic Idealize.ShloMosaic.TcCoe
open Cert.KernelIdeal Cert.KernelIdeal.Gen Facts₀ Facts
open scoped BigOperators

/-- Row `s` of batch `b` among the 1024. -/
abbrev at2 (b : Fin 2) (s : Fin 512) : Fin 1024 := ⟨512 * b.val + s.val, by omega⟩
/-- The batch and the position of a row of row block `j`. -/
abbrev rb (j : Fin 4) : Fin 2 := jb j
abbrev rs (j : Fin 4) (r : Fin 256) : Fin 512 := ⟨256 * (jk j).val + r.val, by have := (jk j).isLt; omega⟩

theorem row_at (n : Nat) (j : Fin 4) (r : Fin 256) (i : Fin n) :
    (rowR n j).emb (ix2 r i) = (ix2 (at2 (rb j) (rs j r)) i : (⟨2, ![1024, n]⟩ : Shape).Idx) := by
  rw [rowR_emb]
  congr 1
  exact Fin.ext (by simp; omega)

/-- A row of batch `b` lies in one row block. -/
theorem row_of (b : Fin 2) (s : Fin 512) : ∃ j r, rb j = b ∧ rs j r = s :=
  ⟨⟨2 * b.val + s.val / 256, by omega⟩, ⟨s.val % 256, by omega⟩, Fin.ext (by simp; omega), Fin.ext (by simp; omega)⟩

theorem xRows_apply (I : In Ideal) (j : Fin 4) (r : Fin 256) (i : Fin 2048) :
    xRows I j (ix2 r i) = I.x (ix3 (rb j) (rs j r) i) := by
  unfold xRows xV
  rw [xT_apply, xR_emb]

theorem allV_apply {m n : Nat} {e : EltTy} (w : (⟨2, ![m, n]⟩ : Shape).Idx → Elt Ideal e) (r : Fin m) (i : Fin n) :
    allV w (ix2 r i) = w (ix2 r i) := by
  unfold allV
  rw [allR_emb]

theorem rowV_apply {n : Nat} {e : EltTy} (w : (⟨2, ![1024, n]⟩ : Shape).Idx → Elt Ideal e) (j : Fin 4) (r : Fin 256) (i : Fin n) :
    rowV w j (ix2 r i) = w (ix2 (at2 (rb j) (rs j r)) i) := by
  unfold rowV
  rw [row_at]

theorem batV_apply {n : Nat} {e : EltTy} (w : (⟨2, ![1024, n]⟩ : Shape).Idx → Elt Ideal e) (b : Fin 2) (s : Fin 512) (i : Fin n) :
    batV w b (ix2 s i) = w (ix2 (at2 b s) i) := by
  unfold batV
  rw [batR_emb]

theorem tileV_apply {e : EltTy} (w : S1024x1024.Idx → Elt Ideal e) (h : Fin 8) (b : Fin 2) (s : Fin 512) (d : Fin 128) :
    tileV w h b (ix2 s d) = w (ix2 (at2 b s) ⟨128 * h.val + d.val, by omega⟩) := by
  unfold tileV
  rw [tileR_emb]

/-- A value glued from row blocks, at row `s` of batch `b`. -/
theorem glue_rows {n : Nat} {α : Type} (w : ∀ j : Fin 4, (rowR n j).shape.Idx → α) (f : Fin 2 → Fin 512 → Fin n → α)
    (h : ∀ j r i, w j (ix2 r i) = f (rb j) (rs j r) i) (b : Fin 2) (s : Fin 512) (i : Fin n) :
    (rowsT n).glue w (ix2 (at2 b s) i) = f b s i := by
  obtain ⟨j, r, rfl, rfl⟩ := row_of b s
  rw [← row_at]
  exact ((rowsT n).glue_emb w j (ix2 r i)).trans (h j r i)

section Device
variable (I : In Ideal) (b : Fin 2) (s : Fin 512)

theorem cV_apply (n : Fin 128) : cV I (ix2 (at2 b s) n) = ∑ k : Fin 2048, I.x (ix3 b s k) * I.wdkv (ix2 k n) := by
  unfold cV
  exact glue_rows _ (fun b s n => ∑ k : Fin 2048, I.x (ix3 b s k) * I.wdkv (ix2 k n))
    (fun j r i => (cT_apply _ _ r i).trans (Finset.sum_congr rfl fun k _ => by rw [xRows_apply, allV_apply])) b s n

theorem qV_apply (n : Fin 1024) : qV I (ix2 (at2 b s) n) = ∑ k : Fin 2048, I.x (ix3 b s k) * I.wq (ix2 k n) := by
  unfold qV
  exact glue_rows _ (fun b s n => ∑ k : Fin 2048, I.x (ix3 b s k) * I.wq (ix2 k n))
    (fun j r i => (qT_apply _ _ r i).trans (Finset.sum_congr rfl fun k _ => by rw [xRows_apply, allV_apply])) b s n

theorem qrV_apply (n : Fin 256) : qrV I (ix2 (at2 b s) n) = ∑ k : Fin 2048, I.x (ix3 b s k) * I.wqr (ix2 k n) := by
  unfold qrV
  exact glue_rows _ (fun b s n => ∑ k : Fin 2048, I.x (ix3 b s k) * I.wqr (ix2 k n))
    (fun j r i => (qrT_apply _ _ r i).trans (Finset.sum_congr rfl fun k _ => by rw [xRows_apply, allV_apply])) b s n

theorem krV_apply (n : Fin 32) : krV I (ix2 (at2 b s) n) = ∑ k : Fin 2048, I.x (ix3 b s k) * I.wkr (ix2 k n) := by
  unfold krV
  exact glue_rows _ (fun b s n => ∑ k : Fin 2048, I.x (ix3 b s k) * I.wkr (ix2 k n))
    (fun j r i => (krT_apply _ _ r i).trans (Finset.sum_congr rfl fun k _ => by rw [xRows_apply, allV_apply])) b s n

theorem kvV_apply (c cn : S1024x128.Idx → Elt Ideal .bf16) (w wn : Vec Ideal S128x1024 .bf16) (n : Fin 1024) :
    kvV c cn w wn (ix2 (at2 b s) n) = (∑ k : Fin 128, (c (ix2 (at2 b s) k) : EReal) * (w (ix2 k n) : EReal))
      + ∑ k : Fin 128, (cn (ix2 (at2 b s) k) : EReal) * (wn (ix2 k n) : EReal) := by
  unfold kvV
  exact glue_rows _ (fun b s n => (∑ k : Fin 128, (c (ix2 (at2 b s) k) : EReal) * (w (ix2 k n) : EReal))
      + ∑ k : Fin 128, (cn (ix2 (at2 b s) k) : EReal) * (wn (ix2 k n) : EReal))
    (fun j r i => (kvT_apply _ _ _ _ r i).trans (congrArg₂ (· + ·)
      (Finset.sum_congr rfl fun k _ => by rw [rowV_apply, allV_apply])
      (Finset.sum_congr rfl fun k _ => by rw [rowV_apply, allV_apply]))) b s n

theorem attV_apply (kr : S1024x32.Idx → Elt Ideal .bf16) (qr : S1024x256.Idx → Elt Ideal .bf16)
    (q k v : S1024x1024.Idx → Elt Ideal .bf16) (h : Fin 8) (d : Fin 128) :
    attV kr qr q k v (ix2 (at2 b s) ⟨128 * h.val + d.val, by omega⟩) = Cert.Math.att
      (fun t => ((∑ e : Fin 128, (q (ix2 (at2 b s) ⟨128 * h.val + e.val, by omega⟩) : EReal) * (k (ix2 (at2 b t) ⟨128 * h.val + e.val, by omega⟩) : EReal))
        + ∑ e : Fin 32, (qr (ix2 (at2 b s) ⟨32 * h.val + e.val, by omega⟩) : EReal) * (kr (ix2 (at2 b t) e) : EReal)) * Cert.Math.scale)
      (fun t => v (ix2 (at2 b t) ⟨128 * h.val + d.val, by omega⟩)) := by
  unfold attV
  rw [← tileR_emb]
  refine (tilesT.glue_emb _ (h, b) (ix2 s d)).trans ((attnT_apply _ _ _ _ _ _ s d).trans ?_)
  congr 1
  · funext t
    refine (scoreT_apply _ _ _ _ _ s t).trans ?_
    simp only [batV_apply, tileV_apply]
  · funext t
    rw [tileV_apply]

theorem row4_at (b k : Fin 2) (r : Fin 256) : at2 (rb (row4 b k)) (rs (row4 b k) r) = at2 b ⟨256 * k.val + r.val, by omega⟩ := by
  unfold rb rs
  apply congrArg₂ at2 (jb_row4 b k)
  apply Fin.ext
  simp only [jk_row4]
  omega

theorem out_of (s : Fin 512) : ∃ (k : Fin 2) (r : Fin 256), (⟨256 * k.val + r.val, by omega⟩ : Fin 512) = s :=
  ⟨⟨s.val / 256, by omega⟩, ⟨s.val % 256, by omega⟩, Fin.ext (by simp; omega)⟩

theorem out1V_apply (o : S1024x1024.Idx → Elt Ideal .bf16) (w : Vec Ideal S1024x2048 .bf16) (n : Fin 2048) :
    out1V o w (ix3 b s n) = ∑ k : Fin 1024, (o (ix2 (at2 b s) k) : EReal) * (w (ix2 k n) : EReal) := by
  obtain ⟨k, r, rfl⟩ := out_of s
  unfold out1V
  rw [← outR_emb]
  refine (outT.glue_emb _ (b, k) (ix3 0 r n)).trans ((out1T_apply _ _ r n).trans ?_)
  simp only [rowV_apply, allV_apply, row4_at]

theorem out2V_apply (old : S2x512x2048.Idx → Elt Ideal .f32) (o : S1024x1024.Idx → Elt Ideal .bf16) (w : Vec Ideal S1024x2048 .bf16)
    (n : Fin 2048) :
    out2V old o w (ix3 b s n) = (old (ix3 b s n) : EReal) + ∑ k : Fin 1024, (o (ix2 (at2 b s) k) : EReal) * (w (ix2 k n) : EReal) := by
  obtain ⟨k, r, rfl⟩ := out_of s
  unfold out2V
  rw [← outR_emb]
  refine (outT.glue_emb _ (b, k) (ix3 0 r n)).trans ((out2T_apply _ _ _ r n).trans ?_)
  simp only [rowV_apply, allV_apply, row4_at, outBlk]

end Device

end Cert.KernelIdeal.Hand

end
-- ==== Proof.Devices.lean ====
/- Every device's output is the whole mathematics, given that its inputs are the slices of the whole arguments. -/
module

public import proofs.«01_k».proof.Proof.Whole

@[expose] public section

noncomputable section

namespace Cert.KernelIdeal.Hand

open Idealize.ShloMosaic Idealize.ShloMosaic.TcCoe
open Cert.KernelIdeal Cert.KernelIdeal.Gen Cert.Math
open scoped BigOperators

theorem dev_lt (c : Dev nD) : c.val < 4 := c.isLt

/-- The device's first and second coordinate. -/
abbrev cx (c : Dev nD) : Fin 2 := ⟨c.val / 2, by have := dev_lt c; omega⟩
abbrev cy (c : Dev nD) : Fin 2 := ⟨c.val % 2, by omega⟩

theorem cx_xn (c : Dev nD) : cx c ≠ cx (xn c) := by revert c; decide
theorem cy_xn (c : Dev nD) : cy (xn c) = cy c := by revert c; decide
theorem cy_yn (c : Dev nD) : cy c ≠ cy (yn c) := by revert c; decide

/-- Half `p` of a dimension of 256, of 512, of 2048. -/
abbrev h256 (p : Fin 2) (k : Fin 128) : Fin 256 := ⟨128 * p.val + k.val, by omega⟩
abbrev h512 (p : Fin 2) (k : Fin 256) : Fin 512 := ⟨256 * p.val + k.val, by omega⟩
abbrev h2048 (p : Fin 2) (k : Fin 1024) : Fin 2048 := ⟨1024 * p.val + k.val, by omega⟩

/-- Every device's inputs are its slices of the whole arguments. -/
structure Sliced (A : Args) (I : Dev nD → In Ideal) : Prop where
  x : ∀ c b s i, (I c).x (ix3 b s i) = A.x b s i
  wdkv : ∀ c i k, (I c).wdkv (ix2 i k) = A.wdkv i (h256 (cx c) k)
  wuk : ∀ c k n, (I c).wuk (ix2 k n) = A.wuk (h256 (cx c) k) (h2048 (cy c) n)
  wuv : ∀ c k n, (I c).wuv (ix2 k n) = A.wuv (h256 (cx c) k) (h2048 (cy c) n)
  wq : ∀ c i n, (I c).wq (ix2 i n) = A.wq i (h2048 (cy c) n)
  wqr : ∀ c i n, (I c).wqr (ix2 i n) = A.wqr i (h512 (cy c) n)
  wkr : ∀ c i n, (I c).wkr (ix2 i n) = A.wkr i n
  woM : ∀ c k n, (I c).woM (ix2 k n) = A.wo (h2048 (cy c) k) n
  woO : ∀ c k n, (I c).woO (ix2 k n) = A.wo (h2048 (cy (yn c)) k) n

variable {A : Args} {I : Dev nD → In Ideal} (S : Sliced A I) (c : Dev nD) (b : Fin 2) (s : Fin 512)
include S

theorem c_eq (k : Fin 128) : cV (I c) (ix2 (at2 b s) k) = latent A b s (h256 (cx c) k) :=
  (cV_apply (I c) b s k).trans (Finset.sum_congr rfl fun i _ => by rw [S.x, S.wdkv])

theorem q_eq (n : Fin 1024) : qV (I c) (ix2 (at2 b s) n) = query A b s (h2048 (cy c) n) :=
  (qV_apply (I c) b s n).trans (Finset.sum_congr rfl fun i _ => by rw [S.x, S.wq])

theorem qr_eq (n : Fin 256) : qrV (I c) (ix2 (at2 b s) n) = rquery A b s (h512 (cy c) n) :=
  (qrV_apply (I c) b s n).trans (Finset.sum_congr rfl fun i _ => by rw [S.x, S.wqr])

theorem kr_eq (n : Fin 32) : krV (I c) (ix2 (at2 b s) n) = rkey A b s n :=
  (krV_apply (I c) b s n).trans (Finset.sum_congr rfl fun i _ => by rw [S.x, S.wkr])

/-- Keys: the two devices' halves of the latent, in the order of the device. -/
theorem k_eq (n : Fin 1024) : kD I c (ix2 (at2 b s) n) = key A b s (h2048 (cy c) n) := by
  unfold kD key
  refine (kvV_apply b s _ _ _ _ n).trans ?_
  refine Eq.trans ?_ (sum_halves (N := 128) (fun k => latent A b s k * A.wuk k (h2048 (cy c) n)) (cx c) (cx (xn c)) (cx_xn c)).symm
  refine congrArg₂ (· + ·) (Finset.sum_congr rfl fun k _ => ?_) (Finset.sum_congr rfl fun k _ => ?_)
  · rw [c_eq S, S.wuk]
  · rw [c_eq S, S.wuk, cy_xn]

theorem v_eq (n : Fin 1024) : vD I c (ix2 (at2 b s) n) = value A b s (h2048 (cy c) n) := by
  unfold vD value
  refine (kvV_apply b s _ _ _ _ n).trans ?_
  refine Eq.trans ?_ (sum_halves (N := 128) (fun k => latent A b s k * A.wuv k (h2048 (cy c) n)) (cx c) (cx (xn c)) (cx_xn c)).symm
  refine congrArg₂ (· + ·) (Finset.sum_congr rfl fun k _ => ?_) (Finset.sum_congr rfl fun k _ => ?_)
  · rw [c_eq S, S.wuv]
  · rw [c_eq S, S.wuv, cy_xn]

/-- The attention output: head `h` of the device is head `8 y + h`. -/
theorem a_eq (n : Fin 1024) : aD I c (ix2 (at2 b s) n) = mixed A b s (h2048 (cy c) n) := by
  obtain ⟨h, d, hn⟩ : ∃ (h : Fin 8) (d : Fin 128), n = ⟨128 * h.val + d.val, by omega⟩ :=
    ⟨⟨n.val / 128, by omega⟩, ⟨n.val % 128, by omega⟩, Fin.ext (by simp; omega)⟩
  subst hn
  unfold aD mixed
  refine (attV_apply b s _ _ _ _ _ h d).trans ?_
  refine congrArg₂ att (funext fun t => ?_) (funext fun t => v_eq S c b t _)
  unfold score
  refine congrArg (· * scale) (congrArg₂ (· + ·) (Finset.sum_congr rfl fun e _ => ?_) (Finset.sum_congr rfl fun e _ => ?_))
  · rw [q_eq S, k_eq S]
    have hc : h2048 (cy c) ⟨128 * h.val + e.val, by omega⟩ = col (hd (h2048 (cy c) ⟨128 * h.val + d.val, by omega⟩)) e :=
      Fin.ext (by simp; omega)
    rw [hc]
  · rw [qr_eq S, kr_eq S]
    have hc : h512 (cy c) ⟨32 * h.val + e.val, by omega⟩ = rot (hd (h2048 (cy c) ⟨128 * h.val + d.val, by omega⟩)) e :=
      Fin.ext (by simp; omega)
    rw [hc]

/-- The output: the two devices' halves of the heads, in the order of the device. -/
theorem o_eq (n : Fin 2048) : oD I c (ix3 b s n) = out A b s n := by
  unfold oD out
  refine (out2V_apply b s _ _ _ n).trans ?_
  rw [out1V_apply]
  refine Eq.trans ?_ (sum_halves (N := 1024) (fun j => mixed A b s j * A.wo j n) (cy c) (cy (yn c)) (cy_yn c)).symm
  refine congrArg₂ (· + ·) (Finset.sum_congr rfl fun k _ => ?_) (Finset.sum_congr rfl fun k _ => ?_)
  · rw [a_eq S, S.woM]
  · rw [a_eq S, S.woO]

end Cert.KernelIdeal.Hand

end
-- ==== Proof.HostSlices.lean ====
/- What the host leaves for each device's kernel: the slices of the arguments. -/
module

public import proofs.«01_k».proof.Proof.Region
public import proofs.«01_k».proof.Proof.Spec
public import Idealize.ShloMosaic.Lib.DynamicIndex
public import Idealize.ShloMosaic.Lib.StableHlo.RunClose
public import Idealize.ShloMosaic.Lib.Pointwise
public import Idealize.ShloMosaic.PureOps.Ideal.Laws

@[expose] public section

noncomputable section

namespace Cert.KernelIdeal.Hand

open Idealize.ShloMosaic Idealize.ShloMosaic.TcCoe Idealize.ShloMosaic.StableHlo
open Cert.KernelIdeal Cert.KernelIdeal.Gen
open scoped BigOperators

/-- The device's second coordinate, as the host computes it. -/
def yw (c : Dev nD) : IVec S_ 32 := Host.remui (Host.divui (constantI S_ 32 (Dev.word c)) (constantI S_ 32 1#32)) (constantI S_ 32 2#32)

/-- A start of a dynamic slice: an index below zero counts from the end. -/
def wrapAt (w : IVec S_ 32) (n : BitVec 32) : IVec S_ 32 :=
  select (cmpi .slt w (constantI S_ 32 0#32)) (addi w (constantI S_ 32 n)) w

def y1024 (c : Dev nD) : IVec S_ 32 := wrapAt (muli (yw c) (constantI S_ 32 1024#32)) 2048#32
def y256 (c : Dev nD) : IVec S_ 32 := wrapAt (muli (muli (yw c) (constantI S_ 32 8#32)) (constantI S_ 32 32#32)) 512#32
def o1024 (c : Dev nD) : IVec S_ 32 := wrapAt (muli (subi (constantI S_ 32 1#32) (yw c)) (constantI S_ 32 1024#32)) 2048#32

theorem y1024_toInt (c : Dev nD) : (y1024 c (Shape.Idx.first h_S_)).toInt = ((1024 * (c.val % 2) : Nat) : Int) := by
  revert c; decide
theorem y256_toInt (c : Dev nD) : (y256 c (Shape.Idx.first h_S_)).toInt = ((256 * (c.val % 2) : Nat) : Int) := by
  revert c; decide
theorem o1024_toInt (c : Dev nD) : (o1024 c (Shape.Idx.first h_S_)).toInt = ((1024 * (1 - c.val % 2) : Nat) : Int) := by
  revert c; decide

variable (m : (ℓ : Loc nD τ sig) → Buf (Elt Ideal) ℓ) (c : Dev nD)

/-- A slice of columns at a computed start. -/
theorem cols_apply {K N n : Nat} (x : (⟨2, ![K, N]⟩ : Shape).Idx → EReal) (z w : IVec S_ 32) (o : Nat)
    (h : (⟨2, ![K, N]⟩ : Shape).Slices (fun _ => 0) ⟨2, ![K, n]⟩) (ho : o + n ≤ N)
    (hz : (z (Shape.Idx.first h_S_)).toInt = 0) (hw : (w (Shape.Idx.first h_S_)).toInt = (o : Int)) (i : Fin K) (j : Fin n) :
    Host.dynamicSlice ⟨2, ![K, n]⟩ x (fun k => ((![z, w] : Fin 2 → IVec S_ 32) k (Shape.Idx.first h_S_)).toInt) h (ix2 i j)
      = x (ix2 i ⟨o + j.val, by omega⟩) := by
  rw [Host.dynamicSlice_eq_extractStridedSlice _ x _ ![0, o] h ⟨rfl, fun a => by
    match a with
    | ⟨0, _⟩ => simp
    | ⟨1, _⟩ => simpa using ho⟩ (fun a => by
    match a with
    | ⟨0, _⟩ => exact hz
    | ⟨1, _⟩ => exact hw)]
  unfold extractStridedSlice
  refine congrArg x (funext fun a => Fin.ext ?_)
  match a with
  | ⟨0, _⟩ => simp
  | ⟨1, _⟩ => simp

/-- A slice of rows at a computed start. -/
theorem rows_apply {K N n : Nat} (x : (⟨2, ![N, K]⟩ : Shape).Idx → EReal) (z w : IVec S_ 32) (o : Nat)
    (h : (⟨2, ![N, K]⟩ : Shape).Slices (fun _ => 0) ⟨2, ![n, K]⟩) (ho : o + n ≤ N)
    (hz : (z (Shape.Idx.first h_S_)).toInt = 0) (hw : (w (Shape.Idx.first h_S_)).toInt = (o : Int)) (j : Fin n) (i : Fin K) :
    Host.dynamicSlice ⟨2, ![n, K]⟩ x (fun k => ((![w, z] : Fin 2 → IVec S_ 32) k (Shape.Idx.first h_S_)).toInt) h (ix2 j i)
      = x (ix2 ⟨o + j.val, by omega⟩ i) := by
  rw [Host.dynamicSlice_eq_extractStridedSlice _ x _ ![o, 0] h ⟨rfl, fun a => by
    match a with
    | ⟨0, _⟩ => simpa using ho
    | ⟨1, _⟩ => simp⟩ (fun a => by
    match a with
    | ⟨0, _⟩ => exact hw
    | ⟨1, _⟩ => exact hz)]
  unfold extractStridedSlice
  refine congrArg x (funext fun a => Fin.ext ?_)
  match a with
  | ⟨0, _⟩ => simp
  | ⟨1, _⟩ => simp

theorem ins_x : (insM m c).x = m ((c.tc : Thread nD τ).loc main_arg0) := by
  show V1 m c main_v37 = _
  after_results_simp <;> rfl

set_option maxHeartbeats 4000000 in
theorem wq_eq : (insM m c).wq = Host.dynamicSlice S2048x1024 (m ((c.tc : Thread nD τ).loc main_arg4))
    (fun k => ((![constantI S_ 32 0#32, y1024 c] : Fin 2 → IVec S_ 32) k (Shape.Idx.first h_S_)).toInt) sliceFits_S2048x2048_S2048x1024 := by
  show V1 m c main_v41 = _
  after_results_simp_entrywise
  rfl

set_option maxHeartbeats 4000000 in
theorem wqr_eq : (insM m c).wqr = Host.dynamicSlice S2048x256 (m ((c.tc : Thread nD τ).loc main_arg5))
    (fun k => ((![constantI S_ 32 0#32, y256 c] : Fin 2 → IVec S_ 32) k (Shape.Idx.first h_S_)).toInt) sliceFits_S2048x512_S2048x256 := by
  show V1 m c main_v42 = _
  after_results_simp_entrywise
  rfl

set_option maxHeartbeats 4000000 in
theorem wuk_eq : (insM m c).wuk = Host.dynamicSlice S128x1024 (m ((c.tc : Thread nD τ).loc main_arg2))
    (fun k => ((![constantI S_ 32 0#32, y1024 c] : Fin 2 → IVec S_ 32) k (Shape.Idx.first h_S_)).toInt) sliceFits_S128x2048_S128x1024 := by
  show V1 m c main_v39 = _
  after_results_simp_entrywise
  rfl

set_option maxHeartbeats 4000000 in
theorem wuv_eq : (insM m c).wuv = Host.dynamicSlice S128x1024 (m ((c.tc : Thread nD τ).loc main_arg3))
    (fun k => ((![constantI S_ 32 0#32, y1024 c] : Fin 2 → IVec S_ 32) k (Shape.Idx.first h_S_)).toInt) sliceFits_S128x2048_S128x1024 := by
  show V1 m c main_v40 = _
  after_results_simp_entrywise
  rfl

set_option maxHeartbeats 4000000 in
theorem woM_eq : (insM m c).woM = Host.dynamicSlice S1024x2048 (m ((c.tc : Thread nD τ).loc main_arg7))
    (fun k => ((![y1024 c, constantI S_ 32 0#32] : Fin 2 → IVec S_ 32) k (Shape.Idx.first h_S_)).toInt) sliceFits_S2048x2048_S1024x2048 := by
  show V1 m c main_v44 = _
  after_results_simp_entrywise
  rfl

set_option maxHeartbeats 4000000 in
theorem woO_eq : (insM m c).woO = Host.dynamicSlice S1024x2048 (m ((c.tc : Thread nD τ).loc main_arg7))
    (fun k => ((![o1024 c, constantI S_ 32 0#32] : Fin 2 → IVec S_ 32) k (Shape.Idx.first h_S_)).toInt) sliceFits_S2048x2048_S1024x2048 := by
  show V1 m c main_v45 = _
  after_results_simp_entrywise
  rfl

theorem ins_wdkv : (insM m c).wdkv = m ((c.tc : Thread nD τ).loc main_arg1) := by
  show V1 m c main_v38 = _
  after_results_simp <;> rfl

theorem ins_wkr : (insM m c).wkr = m ((c.tc : Thread nD τ).loc main_arg6) := by
  show V1 m c main_v43 = _
  after_results_simp <;> rfl

theorem ins_wq (i : Fin 2048) (n : Fin 1024) : (insM m c).wq (ix2 i n)
    = m ((c.tc : Thread nD τ).loc main_arg4) (ix2 i ⟨1024 * (c.val % 2) + n.val, by omega⟩) :=
  (congrFun (wq_eq m c) (ix2 i n)).trans (cols_apply (m ((c.tc : Thread nD τ).loc main_arg4)) (constantI S_ 32 0#32) (y1024 c) (1024 * (c.val % 2))
    sliceFits_S2048x2048_S2048x1024 (by omega) (by decide) (y1024_toInt c) i n)

theorem ins_wqr (i : Fin 2048) (n : Fin 256) : (insM m c).wqr (ix2 i n)
    = m ((c.tc : Thread nD τ).loc main_arg5) (ix2 i ⟨256 * (c.val % 2) + n.val, by omega⟩) :=
  (congrFun (wqr_eq m c) (ix2 i n)).trans (cols_apply (m ((c.tc : Thread nD τ).loc main_arg5)) (constantI S_ 32 0#32) (y256 c) (256 * (c.val % 2))
    sliceFits_S2048x512_S2048x256 (by omega) (by decide) (y256_toInt c) i n)

theorem ins_wuk (i : Fin 128) (n : Fin 1024) : (insM m c).wuk (ix2 i n)
    = m ((c.tc : Thread nD τ).loc main_arg2) (ix2 i ⟨1024 * (c.val % 2) + n.val, by omega⟩) :=
  (congrFun (wuk_eq m c) (ix2 i n)).trans (cols_apply (m ((c.tc : Thread nD τ).loc main_arg2)) (constantI S_ 32 0#32) (y1024 c) (1024 * (c.val % 2))
    sliceFits_S128x2048_S128x1024 (by omega) (by decide) (y1024_toInt c) i n)

theorem ins_wuv (i : Fin 128) (n : Fin 1024) : (insM m c).wuv (ix2 i n)
    = m ((c.tc : Thread nD τ).loc main_arg3) (ix2 i ⟨1024 * (c.val % 2) + n.val, by omega⟩) :=
  (congrFun (wuv_eq m c) (ix2 i n)).trans (cols_apply (m ((c.tc : Thread nD τ).loc main_arg3)) (constantI S_ 32 0#32) (y1024 c) (1024 * (c.val % 2))
    sliceFits_S128x2048_S128x1024 (by omega) (by decide) (y1024_toInt c) i n)

theorem ins_woM (k : Fin 1024) (n : Fin 2048) : (insM m c).woM (ix2 k n)
    = m ((c.tc : Thread nD τ).loc main_arg7) (ix2 ⟨1024 * (c.val % 2) + k.val, by omega⟩ n) :=
  (congrFun (woM_eq m c) (ix2 k n)).trans (rows_apply (m ((c.tc : Thread nD τ).loc main_arg7)) (constantI S_ 32 0#32) (y1024 c) (1024 * (c.val % 2))
    sliceFits_S2048x2048_S1024x2048 (by omega) (by decide) (y1024_toInt c) k n)

theorem ins_woO (k : Fin 1024) (n : Fin 2048) : (insM m c).woO (ix2 k n)
    = m ((c.tc : Thread nD τ).loc main_arg7) (ix2 ⟨1024 * (1 - c.val % 2) + k.val, by omega⟩ n) :=
  (congrFun (woO_eq m c) (ix2 k n)).trans (rows_apply (m ((c.tc : Thread nD τ).loc main_arg7)) (constantI S_ 32 0#32) (o1024 c) (1024 * (1 - c.val % 2))
    sliceFits_S2048x2048_S1024x2048 (by omega) (by decide) (o1024_toInt c) k n)

end Cert.KernelIdeal.Hand

end
-- ==== Proof.RefValue.lean ====
/- The reference's result over the extended reals, element by element. -/
module

public import proofs.«01_k».proof.Proof.Gen.ReferenceIdeal.Run
public import proofs.«01_k».proof.Proof.Spec
public import Idealize.ShloMosaic.Lib.Pointwise
public import Idealize.ShloMosaic.PureOps.Ideal.Laws

@[expose] public section

noncomputable section

namespace Cert.ReferenceIdeal.Hand

open Idealize.ShloMosaic Idealize.ShloMosaic.TcCoe Idealize.ShloMosaic.StableHlo
open Cert.ReferenceIdeal Cert.ReferenceIdeal.Gen Cert.Math
open scoped BigOperators

/-- The latent. -/
def cA (x : FVec Ideal S2x512x2048 .f32) (w : FVec Ideal S2048x256 .f32) : FVec Ideal S2x512x256 .f32 :=
  Host.dotGeneral dot_S2x512x2048_S2048x256_S2x512x256_2_0_01_1_n_n none x w

theorem cA_apply (x : FVec Ideal S2x512x2048 .f32) (w : FVec Ideal S2048x256 .f32) (b : Fin 2) (s : Fin 512) (k : Fin 256) :
    cA x w (ix3 b s k) = ∑ i : Fin 2048, x (ix3 b s i) * w (ix2 i k) := by
  unfold cA
  pointwise

/-- Keys or values, head by head. -/
def kA (c : FVec Ideal S2x512x256 .f32) (w : FVec Ideal S256x2048 .f32) : FVec Ideal S2x512x16x128 .f32 :=
  shapeCast _ (Host.dotGeneral dot_S2x512x256_S256x2048_S2x512x2048_2_0_01_1_n_n none c w) shapeCasts_S2x512x2048_S2x512x16x128

theorem kA_apply (c : FVec Ideal S2x512x256 .f32) (w : FVec Ideal S256x2048 .f32) (b : Fin 2) (s : Fin 512) (h : Fin 16) (d : Fin 128) :
    kA c w (ix4 b s h d) = ∑ k : Fin 256, c (ix3 b s k) * w (ix2 k (col h d)) := by
  unfold kA
  pointwise

/-- Queries, head by head. -/
def qA (x : FVec Ideal S2x512x2048 .f32) (w : FVec Ideal S2048x2048 .f32) : FVec Ideal S2x512x16x128 .f32 :=
  shapeCast _ (Host.dotGeneral dot_S2x512x2048_S2048x2048_S2x512x2048_2_0_01_1_n_n none x w) shapeCasts_S2x512x2048_S2x512x16x128

theorem qA_apply (x : FVec Ideal S2x512x2048 .f32) (w : FVec Ideal S2048x2048 .f32) (b : Fin 2) (s : Fin 512) (h : Fin 16) (d : Fin 128) :
    qA x w (ix4 b s h d) = ∑ i : Fin 2048, x (ix3 b s i) * w (ix2 i (col h d)) := by
  unfold qA
  pointwise

/-- Rotary queries, head by head. -/
def qrA (x : FVec Ideal S2x512x2048 .f32) (w : FVec Ideal S2048x512 .f32) : FVec Ideal S2x512x16x32 .f32 :=
  shapeCast _ (Host.dotGeneral dot_S2x512x2048_S2048x512_S2x512x512_2_0_01_1_n_n none x w) shapeCasts_S2x512x512_S2x512x16x32

theorem qrA_apply (x : FVec Ideal S2x512x2048 .f32) (w : FVec Ideal S2048x512 .f32) (b : Fin 2) (s : Fin 512) (h : Fin 16) (d : Fin 32) :
    qrA x w (ix4 b s h d) = ∑ i : Fin 2048, x (ix3 b s i) * w (ix2 i (rot h d)) := by
  unfold qrA
  pointwise

/-- Rotary keys, the same for every head. -/
def krA (x : FVec Ideal S2x512x2048 .f32) (w : FVec Ideal S2048x32 .f32) : FVec Ideal S2x512x16x32 .f32 :=
  broadcastInDim S2x512x16x32 ![0, 1, 2, 3] bcast_S2x512x1x32_S2x512x16x32_0_1_2_3
    (shapeCast _ (Host.dotGeneral dot_S2x512x2048_S2048x32_S2x512x32_2_0_01_1_n_n none x w) shapeCasts_S2x512x32_S2x512x1x32)

theorem krA_apply (x : FVec Ideal S2x512x2048 .f32) (w : FVec Ideal S2048x32 .f32) (b : Fin 2) (s : Fin 512) (h : Fin 16) (d : Fin 32) :
    krA x w (ix4 b s h d) = ∑ i : Fin 2048, x (ix3 b s i) * w (ix2 i d) := by
  unfold krA
  pointwise

/-- The scaled scores. -/
def sA (q k : FVec Ideal S2x512x16x128 .f32) (qr kr : FVec Ideal S2x512x16x32 .f32) : FVec Ideal S2x16x512x512 .f32 :=
  mulf (addf (Host.dotGeneral dot_S2x512x16x128_S2x512x16x128_S2x16x512x512_3_3_1_1_02_02 none q k)
      (Host.dotGeneral dot_S2x512x16x32_S2x512x16x32_S2x16x512x512_3_3_1_1_02_02 none qr kr))
    (broadcastInDim S2x16x512x512 ![] bcast_S_S2x16x512x512 (constant S_ .f32 0x3DA1E89B#32))

theorem sA_apply (q k : FVec Ideal S2x512x16x128 .f32) (qr kr : FVec Ideal S2x512x16x32 .f32) (b : Fin 2) (h : Fin 16) (s t : Fin 512) :
    sA q k qr kr (ix4 b h s t) = ((∑ d : Fin 128, q (ix4 b s h d) * k (ix4 b t h d))
      + ∑ d : Fin 32, qr (ix4 b s h d) * kr (ix4 b t h d)) * scale := by
  unfold sA scale
  pointwise

/-- The exponentials of the scores less their row's largest. -/
def eA (s : FVec Ideal S2x16x512x512 .f32) : FVec Ideal S2x16x512x512 .f32 :=
  Host.exp (subf s (broadcastInDim S2x16x512x512 ![0, 1, 2, 3] bcast_S2x16x512x1_S2x16x512x512_0_1_2_3
    (broadcastInDim S2x16x512x1 ![0, 1, 2] bcast_S2x16x512_S2x16x512x1_0_1_2
      (Host.reduce FloatOps.maximumf s (constant S_ .f32 0xFF800000#32) reducesTo_S2x16x512x512_S2x16x512_d3 h_S_))))

theorem eA_apply (x : FVec Ideal S2x16x512x512 .f32) (b : Fin 2) (h : Fin 16) (s t : Fin 512) :
    eA x (ix4 b h s t) = Ideal.exp (x (ix4 b h s t)
      - Finset.fold max (Ideal.ofBits .f32 4286578688#32) (fun u => x (ix4 b h s u)) Finset.univ) := by
  unfold eA
  pointwise

/-- The normalised weights. -/
def pA (e : FVec Ideal S2x16x512x512 .f32) : FVec Ideal S2x16x512x512 .f32 :=
  Host.divf e (broadcastInDim S2x16x512x512 ![0, 1, 2, 3] bcast_S2x16x512x1_S2x16x512x512_0_1_2_3
    (broadcastInDim S2x16x512x1 ![0, 1, 2] bcast_S2x16x512_S2x16x512x1_0_1_2
      (Host.reduceAdd e (constant S_ .f32 0x00000000#32) reducesTo_S2x16x512x512_S2x16x512_d3 h_S_)))

theorem pA_apply (e : FVec Ideal S2x16x512x512 .f32) (b : Fin 2) (h : Fin 16) (s t : Fin 512) :
    pA e (ix4 b h s t) = Ideal.div (e (ix4 b h s t)) (∑ u : Fin 512, e (ix4 b h s u)) := by
  unfold pA
  pointwise

/-- The heads' outputs laid end to end. -/
def oA (v : FVec Ideal S2x512x16x128 .f32) (p : FVec Ideal S2x16x512x512 .f32) : FVec Ideal S2x512x2048 .f32 :=
  shapeCast _ (transpose S2x512x16x128 [0, 3, 1, 2]
    (Host.dotGeneral dot_S2x512x16x128_S2x16x512x512_S2x16x128x512_1_3_3_2_02_01 none v p)
    transposes_S2x16x128x512_S2x512x16x128_0_3_1_2) shapeCasts_S2x512x16x128_S2x512x2048

theorem oA_apply (v : FVec Ideal S2x512x16x128 .f32) (p : FVec Ideal S2x16x512x512 .f32) (b : Fin 2) (s : Fin 512) (n : Fin 2048) :
    oA v p (ix3 b s n) = ∑ t : Fin 512, v (ix4 b t (hd n) ⟨n.val % 128, by omega⟩) * p (ix4 b (hd n) s t) := by
  unfold oA
  pointwise

/-- The output. -/
def outA (o : FVec Ideal S2x512x2048 .f32) (w : FVec Ideal S2048x2048 .f32) : FVec Ideal S2x512x2048 .f32 :=
  Host.dotGeneral dot_S2x512x2048_S2048x2048_S2x512x2048_2_0_01_1_n_n none o w

theorem outA_apply (o : FVec Ideal S2x512x2048 .f32) (w : FVec Ideal S2048x2048 .f32) (b : Fin 2) (s : Fin 512) (n : Fin 2048) :
    outA o w (ix3 b s n) = ∑ j : Fin 2048, o (ix3 b s j) * w (ix2 j n) := by
  unfold outA
  pointwise

variable (m : (ℓ : Loc nD τ sig) → Buf (Elt Ideal) ℓ) (c : Dev nD)

/-- The arguments in a memory. -/
def args : Args where
  x b s i := m ((c.tc : Thread nD τ).loc main_arg0) (ix3 b s i)
  wdkv i k := m ((c.tc : Thread nD τ).loc main_arg1) (ix2 i k)
  wuk k n := m ((c.tc : Thread nD τ).loc main_arg2) (ix2 k n)
  wuv k n := m ((c.tc : Thread nD τ).loc main_arg3) (ix2 k n)
  wq i n := m ((c.tc : Thread nD τ).loc main_arg4) (ix2 i n)
  wqr i n := m ((c.tc : Thread nD τ).loc main_arg5) (ix2 i n)
  wkr i n := m ((c.tc : Thread nD τ).loc main_arg6) (ix2 i n)
  wo j n := m ((c.tc : Thread nD τ).loc main_arg7) (ix2 j n)

/-- The reference's result in pieces. -/
theorem res_pieces : Value.res_main_v29 m c =
    outA (oA (kA (cA (m ((c.tc : Thread nD τ).loc main_arg0)) (m ((c.tc : Thread nD τ).loc main_arg1))) (m ((c.tc : Thread nD τ).loc main_arg3)))
      (pA (eA (sA (qA (m ((c.tc : Thread nD τ).loc main_arg0)) (m ((c.tc : Thread nD τ).loc main_arg4)))
        (kA (cA (m ((c.tc : Thread nD τ).loc main_arg0)) (m ((c.tc : Thread nD τ).loc main_arg1))) (m ((c.tc : Thread nD τ).loc main_arg2)))
        (qrA (m ((c.tc : Thread nD τ).loc main_arg0)) (m ((c.tc : Thread nD τ).loc main_arg5)))
        (krA (m ((c.tc : Thread nD τ).loc main_arg0)) (m ((c.tc : Thread nD τ).loc main_arg6)))))))
      (m ((c.tc : Thread nD τ).loc main_arg7)) := by
  unfold Value.res_main_v29 outA oA kA cA pA eA sA qA qrA krA
  rfl

theorem col_hd (n : Fin 2048) : col (hd n) ⟨n.val % 128, by omega⟩ = n := Fin.ext (by simp; omega)

/-- The reference's result. -/
theorem res_apply (b : Fin 2) (s : Fin 512) (n : Fin 2048) :
    Value.res_main_v29 m c (ix3 b s n) = out (args m c) b s n := by
  refine (congrFun (res_pieces m c) (ix3 b s n)).trans ((outA_apply _ _ b s n).trans ?_)
  unfold out
  refine Finset.sum_congr rfl fun j _ => congrArg₂ (· * ·) ?_ rfl
  refine (oA_apply _ _ b s j).trans ?_
  unfold mixed att
  refine Finset.sum_congr rfl fun t _ => ?_
  rw [mul_comm, kA_apply, pA_apply, col_hd]
  simp only [eA_apply, sA_apply, qA_apply, kA_apply, cA_apply, qrA_apply, krA_apply]
  rfl

end Cert.ReferenceIdeal.Hand

end
-- ==== Proof.Values.lean ====
/- The kernel's run and the reference's run end with the same output. -/
module

public import proofs.«01_k».proof.Defs
public import proofs.«01_k».proof.Proof.Devices
public import proofs.«01_k».proof.Proof.HostSlices
public import proofs.«01_k».proof.Proof.RefValue
public import proofs.«01_k».proof.Proof.Frames
public import Idealize.ShloMosaic.Lib.LayoutAt

@[expose] public section

noncomputable section

namespace Cert.Proof

open Idealize.ShloMosaic Idealize.ShloMosaic.TcCoe Idealize.SL.Sem
open Cert.KernelIdeal.Hand

theorem lin_x : ∀ c : Dev Cert.KernelIdeal.nD, Layout.meshLin [2, 2] c.val [0] = c.val / 2 := by decide

/-- A block cut along the second axis by the device's first coordinate. -/
theorem block_cols (c : Dev Cert.KernelIdeal.nD) (v : (⟨2, ![2048, 256]⟩ : Shape).Idx → EReal) (i : Fin 2048) (k : Fin 128) :
    (Layout.blockN ⟨2, ![2048, 128]⟩ ⟨2, ![2048, 256]⟩ (Layout.meshBlock [2, 2] ![[], [0]] c) v) (ix2 i k)
      = v (ix2 i (h256 (cx c) k)) := by
  rw [Layout.blockN_apply]
  refine congrArg v (funext fun a => Fin.ext ?_)
  rw [Layout.TilesN.idx_val]
  match a with
  | ⟨0, _⟩ => exact (by show 0 * 2048 + i.val = i.val; omega)
  | ⟨1, _⟩ =>
    show Layout.meshLin [2, 2] c.val [0] * 128 + k.val = 128 * (c.val / 2) + k.val
    rw [lin_x]; omega

/-- A block cut along the first axis by the device's first coordinate. -/
theorem block_rows (c : Dev Cert.KernelIdeal.nD) (v : (⟨2, ![256, 2048]⟩ : Shape).Idx → EReal) (k : Fin 128) (n : Fin 2048) :
    (Layout.blockN ⟨2, ![128, 2048]⟩ ⟨2, ![256, 2048]⟩ (Layout.meshBlock [2, 2] ![[0], []] c) v) (ix2 k n)
      = v (ix2 (h256 (cx c) k) n) := by
  rw [Layout.blockN_apply]
  refine congrArg v (funext fun a => Fin.ext ?_)
  rw [Layout.TilesN.idx_val]
  match a with
  | ⟨0, _⟩ =>
    show Layout.meshLin [2, 2] c.val [0] * 128 + k.val = 128 * (c.val / 2) + k.val
    rw [lin_x]; omega
  | ⟨1, _⟩ => exact (by show 0 * 2048 + n.val = n.val; omega)

/-- The devices' inputs are the slices of the reference's arguments. -/
theorem sliced (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) :
    Sliced (Cert.ReferenceIdeal.Hand.args m' 0) (insM m) where
  x c b s i := (congrFun (ins_x m c) (ix3 b s i)).trans (congrFun (h c).1 (ix3 b s i))
  wdkv c i k := (congrFun (ins_wdkv m c) (ix2 i k)).trans ((congrFun (h c).2.1 (ix2 i k)).trans (block_cols c _ i k))
  wuk c k n := (ins_wuk m c k n).trans ((congrFun (h c).2.2.1 _).trans (block_rows c _ k _))
  wuv c k n := (ins_wuv m c k n).trans ((congrFun (h c).2.2.2.1 _).trans (block_rows c _ k _))
  wq c i n := (ins_wq m c i n).trans (congrFun (h c).2.2.2.2.1 _)
  wqr c i n := (ins_wqr m c i n).trans (congrFun (h c).2.2.2.2.2.1 _)
  wkr c i n := (congrFun (ins_wkr m c) (ix2 i n)).trans (congrFun (h c).2.2.2.2.2.2.1 (ix2 i n))
  woM c k n := (ins_woM m c k n).trans (congrFun (h c).2.2.2.2.2.2.2 _)
  woO c k n := (ins_woO m c k n).trans ((congrFun (h c).2.2.2.2.2.2.2 _).trans (by
    have hy : h2048 (cy (yn c)) k = ⟨1024 * (1 - c.val % 2) + k.val, by omega⟩ :=
      Fin.ext (by have : (yn c).val % 2 = 1 - c.val % 2 := by revert c; decide
                  simp [this])
    show _ = (Cert.ReferenceIdeal.Hand.args m' 0).wo (h2048 (cy (yn c)) k) n
    rw [hy]; rfl))

/-- Every index of the output is its three coordinates. -/
theorem idx3 (i : (⟨3, ![2, 512, 2048]⟩ : Shape).Idx) : i = ix3 (i 0) (i 1) (i 2) :=
  funext fun a => match a with
    | ⟨0, _⟩ => rfl
    | ⟨1, _⟩ => rfl
    | ⟨2, _⟩ => rfl

theorem algebraic : Cert.algebraic_KernelIdeal_ReferenceIdeal (hKernelIdeal := Cert.KernelIdeal.Gen.facts)
    (hReferenceIdeal := Cert.ReferenceIdeal.Gen.facts) := fun m g m' g' _ h => by
  refine ⟨Cert.ReferenceIdeal.Value.res_main_v29 m' 0, ?_, ?_⟩
  · refine (θ_run Cert.KernelIdeal.defs _ _).mono (fun r hr c => ⟨(hr.1 c).1.trans ?_, (hr.1 c).2⟩) (run_read (F := Ideal) m g)
    have S := sliced m m' h
    refine funext fun i : (⟨3, ![2, 512, 2048]⟩ : Shape).Idx => ?_
    rw [idx3 i]
    exact (o_eq S c (i 0) (i 1) (i 2)).trans (Cert.ReferenceIdeal.Hand.res_apply m' 0 (i 0) (i 1) (i 2)).symm
  · exact (θ_run Cert.ReferenceIdeal.defs _ _).mono (fun r hr => hr 0) (Cert.ReferenceIdeal.Value.run m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) :=
  fun m g _ => Cert.KernelIdeal.Hand.frame_main (F := Ideal) m g

theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  frame_kernel, frame_ideal, frame_reference, trivial, algebraic⟩

end Cert.Proof

end
